-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_no_hidden_bias [hPre_finite_no_hidden_bias : Cert.Pre_finite_no_hidden_bias.Facts] (m : (ℓ : Loc Cert.KernelIdeal.nD Cert.KernelIdeal.τ Cert.KernelIdeal.sig) → Buf (Elt Ideal) ℓ) : Prop :=
  ∀ c : Dev Cert.KernelIdeal.nD,
    (Cert.Pre_finite_no_hidden_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_no_hidden_bias [hPre_finite_no_hidden_bias : Cert.Pre_finite_no_hidden_bias.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_no_hidden_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_no_hidden_bias [hKernelIdeal : Cert.KernelIdeal.Facts] [hPre_finite_no_hidden_bias : Cert.Pre_finite_no_hidden_bias.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_no_hidden_bias m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_no_hidden_bias [hReferenceIdeal : Cert.ReferenceIdeal.Facts] [hPre_finite_no_hidden_bias : Cert.Pre_finite_no_hidden_bias.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_no_hidden_bias m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_no_hidden_bias [hKernelIdeal : Cert.KernelIdeal.Facts] [hReferenceIdeal : Cert.ReferenceIdeal.Facts] [hPre_finite_no_hidden_bias : Cert.Pre_finite_no_hidden_bias.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_no_hidden_bias m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v58)) (v1 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_v59) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7_8) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_no_hidden_bias : Cert.Pre_finite_no_hidden_bias.Facts),
    quiescent_Kernel (hKernel := hKernel)
    ∧ quiescent_KernelIdeal (hKernelIdeal := hKernelIdeal)
    ∧ quiescent_KernelIdeal_pre_finite_no_hidden_bias (hKernelIdeal := hKernelIdeal) (hPre_finite_no_hidden_bias := hPre_finite_no_hidden_bias)
    ∧ quiescent_ReferenceIdeal (hReferenceIdeal := hReferenceIdeal)
    ∧ quiescent_ReferenceIdeal_pre_finite_no_hidden_bias (hReferenceIdeal := hReferenceIdeal) (hPre_finite_no_hidden_bias := hPre_finite_no_hidden_bias)
    ∧ preserves_Kernel_KernelIdeal
    ∧ algebraic_KernelIdeal_ReferenceIdeal_pre_finite_no_hidden_bias (hKernelIdeal := hKernelIdeal) (hReferenceIdeal := hReferenceIdeal) (hPre_finite_no_hidden_bias := hPre_finite_no_hidden_bias)
-- ==== Pre_finite_no_hidden_bias.lean ====
abbrev S131072x2 : Shape := ⟨2, ![131072, 2]⟩
abbrev S9x2x2 : Shape := ⟨3, ![9, 2, 2]⟩
abbrev S8x2 : Shape := ⟨2, ![8, 2]⟩
abbrev S8x512x1 : Shape := ⟨3, ![8, 512, 1]⟩
abbrev S8x512 : Shape := ⟨2, ![8, 512]⟩
abbrev S8x2x512 : Shape := ⟨3, ![8, 2, 512]⟩
abbrev S_ : Shape := ⟨0, ![]⟩

class Facts : Prop where
  bcast_S_S8x512 : S_.BroadcastsInDim S8x512 (![] : Fin 0 → Fin S8x512.rank)
  reducesTo_S8x512_S_d0_1 : S8x512.ReducesTo [0, 1] S_
  h_S_ : 0 < S_.numel
  bcast_S_S8x2 : S_.BroadcastsInDim S8x2 (![] : Fin 0 → Fin S8x2.rank)
  reducesTo_S8x2_S_d0_1 : S8x2.ReducesTo [0, 1] S_
  bcast_S_S131072x2 : S_.BroadcastsInDim S131072x2 (![] : Fin 0 → Fin S131072x2.rank)
  reducesTo_S131072x2_S_d0_1 : S131072x2.ReducesTo [0, 1] S_
  bcast_S_S9x2x2 : S_.BroadcastsInDim S9x2x2 (![] : Fin 0 → Fin S9x2x2.rank)
  reducesTo_S9x2x2_S_d0_1_2 : S9x2x2.ReducesTo [0, 1, 2] S_
  bcast_S_S8x512x1 : S_.BroadcastsInDim S8x512x1 (![] : Fin 0 → Fin S8x512x1.rank)
  reducesTo_S8x512x1_S_d0_1_2 : S8x512x1.ReducesTo [0, 1, 2] S_
  bcast_S_S8x2x512 : S_.BroadcastsInDim S8x2x512 (![] : Fin 0 → Fin S8x2x512.rank)
  reducesTo_S8x2x512_S_d0_1_2 : S8x2x512.ReducesTo [0, 1, 2] S_

variable [Facts]

def fn_part2 {F : FTy → Type} [FloatOps F] (main_v31 : IVec S_ 1) (main_v32 : FVec F S8x2 .f32) (main_cst_12 : FVec F S_ .f32) : IVec S_ 1 :=
  let main_v33 : FVec F S8x2 .f32 := broadcastInDim S8x2 ![] bcast_S_S8x2 main_cst_12
  let main_v34 : IVec S8x2 1 := cmpf .olt main_v32 main_v33
  let main_c_13 : IVec S_ 1 := constantI S_ 1 1#1
  let main_v35 : IVec S_ 1 := (fun x v => Host.reduce IntOp.andi x v reducesTo_S8x2_S_d0_1 h_S_) main_v34 main_c_13
  let main_v36 : IVec S_ 1 := andi main_v31 main_v35
  main_v36

def fn_part1 {F : FTy → Type} [FloatOps F] (main_arg3 : FVec F S8x2 .f32) (main_arg4 : FVec F S8x512x1 .f32) (main_arg6 : FVec F S8x2x512 .f32) (main_arg7 : FVec F S8x2 .f32) (main_v11 : IVec S_ 1) (main_v15 : IVec S_ 1) : IVec S_ 1 :=
  let main_v16 : IVec S_ 1 := andi main_v11 main_v15
  let main_v17 : FVec F S8x2 .f32 := Host.absf main_arg3
  let main_cst_6 : FVec F S_ .f32 := constant S_ .f32 0x7F800000#32
  let main_v18 : FVec F S8x2 .f32 := broadcastInDim S8x2 ![] bcast_S_S8x2 main_cst_6
  let main_v19 : IVec S8x2 1 := cmpf .olt main_v17 main_v18
  let main_c_7 : IVec S_ 1 := constantI S_ 1 1#1
  let main_v20 : IVec S_ 1 := (fun x v => Host.reduce IntOp.andi x v reducesTo_S8x2_S_d0_1 h_S_) main_v19 main_c_7
  let main_v21 : IVec S_ 1 := andi main_v16 main_v20
  let main_v22 : FVec F S8x512x1 .f32 := Host.absf main_arg4
  let main_cst_8 : FVec F S_ .f32 := constant S_ .f32 0x7F800000#32
  let main_v23 : FVec F S8x512x1 .f32 := broadcastInDim S8x512x1 ![] bcast_S_S8x512x1 main_cst_8
  let main_v24 : IVec S8x512x1 1 := cmpf .olt main_v22 main_v23
  let main_c_9 : IVec S_ 1 := constantI S_ 1 1#1
  let main_v25 : IVec S_ 1 := (fun x v => Host.reduce IntOp.andi x v reducesTo_S8x512x1_S_d0_1_2 h_S_) main_v24 main_c_9
  let main_v26 : IVec S_ 1 := andi main_v21 main_v25
  let main_v27 : FVec F S8x2x512 .f32 := Host.absf main_arg6
  let main_cst_10 : FVec F S_ .f32 := constant S_ .f32 0x7F800000#32
  let main_v28 : FVec F S8x2x512 .f32 := broadcastInDim S8x2x512 ![] bcast_S_S8x2x512 main_cst_10
  let main_v29 : IVec S8x2x512 1 := cmpf .olt main_v27 main_v28
  let main_c_11 : IVec S_ 1 := constantI S_ 1 1#1
  let main_v30 : IVec S_ 1 := (fun x v => Host.reduce IntOp.andi x v reducesTo_S8x2x512_S_d0_1_2 h_S_) main_v29 main_c_11
  let main_v31 : IVec S_ 1 := andi main_v26 main_v30
  let main_v32 : FVec F S8x2 .f32 := Host.absf main_arg7
  let main_cst_12 : FVec F S_ .f32 := constant S_ .f32 0x7F800000#32
  fn_part2 (F := F) main_v31 main_v32 main_cst_12

def fn {F : FTy → Type} [FloatOps F] (main_arg0 : FVec F S131072x2 .f32) (main_arg1 : FVec F S9x2x2 .f32) (main_arg2 : FVec F S8x2 .f32) (main_arg3 : FVec F S8x2 .f32) (main_arg4 : FVec F S8x512x1 .f32) (main_arg5 : FVec F S8x512 .f32) (main_arg6 : FVec F S8x2x512 .f32) (main_arg7 : FVec F S8x2 .f32) : IVec S_ 1 :=
  let main_cst : FVec F S_ .f32 := constant S_ .f32 0x00000000#32
  let main_v0 : FVec F S8x512 .f32 := broadcastInDim S8x512 ![] bcast_S_S8x512 main_cst
  let main_v1 : IVec S8x512 1 := cmpf .oeq main_arg5 main_v0
  let main_c : IVec S_ 1 := constantI S_ 1 1#1
  let main_v2 : IVec S_ 1 := (fun x v => Host.reduce IntOp.andi x v reducesTo_S8x512_S_d0_1 h_S_) main_v1 main_c
  let main_cst_0 : FVec F S_ .f32 := constant S_ .f32 0x7F800000#32
  let main_v3 : FVec F S8x2 .f32 := broadcastInDim S8x2 ![] bcast_S_S8x2 main_cst_0
  let main_v4 : IVec S8x2 1 := cmpf .olt main_arg2 main_v3
  let main_c_1 : IVec S_ 1 := constantI S_ 1 1#1
  let main_v5 : IVec S_ 1 := (fun x v => Host.reduce IntOp.andi x v reducesTo_S8x2_S_d0_1 h_S_) main_v4 main_c_1
  let main_v6 : IVec S_ 1 := andi main_v2 main_v5
  let main_v7 : FVec F S131072x2 .f32 := Host.absf main_arg0
  let main_cst_2 : FVec F S_ .f32 := constant S_ .f32 0x7F800000#32
  let main_v8 : FVec F S131072x2 .f32 := broadcastInDim S131072x2 ![] bcast_S_S131072x2 main_cst_2
  let main_v9 : IVec S131072x2 1 := cmpf .olt main_v7 main_v8
  let main_c_3 : IVec S_ 1 := constantI S_ 1 1#1
  let main_v10 : IVec S_ 1 := (fun x v => Host.reduce IntOp.andi x v reducesTo_S131072x2_S_d0_1 h_S_) main_v9 main_c_3
  let main_v11 : IVec S_ 1 := andi main_v6 main_v10
  let main_v12 : FVec F S9x2x2 .f32 := Host.absf main_arg1
  let main_cst_4 : FVec F S_ .f32 := constant S_ .f32 0x7F800000#32
  let main_v13 : FVec F S9x2x2 .f32 := broadcastInDim S9x2x2 ![] bcast_S_S9x2x2 main_cst_4
  let main_v14 : IVec S9x2x2 1 := cmpf .olt main_v12 main_v13
  let main_c_5 : IVec S_ 1 := constantI S_ 1 1#1
  let main_v15 : IVec S_ 1 := (fun x v => Host.reduce IntOp.andi x v reducesTo_S9x2x2_S_d0_1_2 h_S_) main_v14 main_c_5
  fn_part1 (F := F) main_arg3 main_arg4 main_arg6 main_arg7 main_v11 main_v15
-- ==== Kernel.lean ====
abbrev S131072x2 : Shape := ⟨2, ![131072, 2]⟩
abbrev S9x2x2 : Shape := ⟨3, ![9, 2, 2]⟩
abbrev S8x2 : Shape := ⟨2, ![8, 2]⟩
abbrev S8x512x1 : Shape := ⟨3, ![8, 512, 1]⟩
abbrev S8x512 : Shape := ⟨2, ![8, 512]⟩
abbrev S8x2x512 : Shape := ⟨3, ![8, 2, 512]⟩
abbrev S9x1x1 : Shape := ⟨3, ![9, 1, 1]⟩
abbrev S9 : Shape := ⟨1, ![9]⟩
abbrev S_ : Shape := ⟨0, ![]⟩
abbrev S1x2x2 : Shape := ⟨3, ![1, 2, 2]⟩
abbrev S2x2 : Shape := ⟨2, ![2, 2]⟩
abbrev S4 : Shape := ⟨1, ![4]⟩
abbrev S1 : Shape := ⟨1, ![1]⟩
abbrev S11 : Shape := ⟨1, ![11]⟩
abbrev S16 : Shape := ⟨1, ![16]⟩
abbrev S8x2x2 : Shape := ⟨3, ![8, 2, 2]⟩
abbrev S8x4 : Shape := ⟨2, ![8, 4]⟩
abbrev S8x1 : Shape := ⟨2, ![8, 1]⟩
abbrev S8x16 : Shape := ⟨2, ![8, 16]⟩
abbrev S1x16 : Shape := ⟨2, ![1, 16]⟩
abbrev S9x16 : Shape := ⟨2, ![9, 16]⟩
abbrev S131072x1 : Shape := ⟨2, ![131072, 1]⟩
abbrev S131072 : Shape := ⟨1, ![131072]⟩
abbrev S16x64x128 : Shape := ⟨3, ![16, 64, 128]⟩
abbrev S1x64x128 : Shape := ⟨3, ![1, 64, 128]⟩
abbrev S64x128 : Shape := ⟨2, ![64, 128]⟩
abbrev S1x1 : Shape := ⟨2, ![1, 1]⟩

abbrev nBuf : Space → Nat
  | .hbm => 77
  | .vmem => 10
  | .smem => 1
  | _ => 0

abbrev bufTy : (tb : Table) → Fin (tcTables nBuf tb) → BufTy
  | .hbm, ⟨0, _⟩ => ⟨S131072x2, .f32⟩
  | .hbm, ⟨1, _⟩ => ⟨S9x2x2, .f32⟩
  | .hbm, ⟨2, _⟩ => ⟨S8x2, .f32⟩
  | .hbm, ⟨3, _⟩ => ⟨S8x2, .f32⟩
  | .hbm, ⟨4, _⟩ => ⟨S8x512x1, .f32⟩
  | .hbm, ⟨5, _⟩ => ⟨S8x512, .f32⟩
  | .hbm, ⟨6, _⟩ => ⟨S8x2x512, .f32⟩
  | .hbm, ⟨7, _⟩ => ⟨S8x2, .f32⟩
  | .hbm, ⟨8, _⟩ => ⟨S8x2, .f32⟩
  | .hbm, ⟨9, _⟩ => ⟨S9x1x1, .f32⟩
  | .hbm, ⟨10, _⟩ => ⟨S9, .f32⟩
  | .hbm, ⟨11, _⟩ => ⟨S9x1x1, .f32⟩
  | .hbm, ⟨12, _⟩ => ⟨S9, .f32⟩
  | .hbm, ⟨13, _⟩ => ⟨S9, .f32⟩
  | .hbm, ⟨14, _⟩ => ⟨S9x1x1, .f32⟩
  | .hbm, ⟨15, _⟩ => ⟨S9, .f32⟩
  | .hbm, ⟨16, _⟩ => ⟨S9x1x1, .f32⟩
  | .hbm, ⟨17, _⟩ => ⟨S9, .f32⟩
  | .hbm, ⟨18, _⟩ => ⟨S9, .f32⟩
  | .hbm, ⟨19, _⟩ => ⟨S9, .f32⟩
  | .hbm, ⟨20, _⟩ => ⟨S9, .f32⟩
  | .hbm, ⟨21, _⟩ => ⟨S9, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8x512, .f32⟩
  | .hbm, ⟨30, _⟩ => ⟨S8x2x512, .bf16⟩
  | .hbm, ⟨31, _⟩ => ⟨S8x2x512, .f32⟩
  | .hbm, ⟨32, _⟩ => ⟨S_, .f32⟩
  | .hbm, ⟨33, _⟩ => ⟨S8x512, .f32⟩
  | .hbm, ⟨34, _⟩ => ⟨S8x512, .f32⟩
  | .hbm, ⟨35, _⟩ => ⟨S_, .f32⟩
  | .hbm, ⟨36, _⟩ => ⟨S8x512, .f32⟩
  | .hbm, ⟨37, _⟩ => ⟨S8x512, .f32⟩
  | .hbm, ⟨38, _⟩ => ⟨S8x2, .f32⟩
  | .hbm, ⟨39, _⟩ => ⟨S8x2, .f32⟩
  | .hbm, ⟨40, _⟩ => ⟨S9x2x2, .bf16⟩
  | .hbm, ⟨41, _⟩ => ⟨S9x2x2, .f32⟩
  | .hbm, ⟨42, _⟩ => ⟨S1x2x2, .f32⟩
  | .hbm, ⟨43, _⟩ => ⟨S2x2, .f32⟩
  | .hbm, ⟨44, _⟩ => ⟨S4, .f32⟩
  | .hbm, ⟨45, _⟩ => ⟨S1, .f32⟩
  | .hbm, ⟨46, _⟩ => ⟨S_, .f32⟩
  | .hbm, ⟨47, _⟩ => ⟨S11, .f32⟩
  | .hbm, ⟨48, _⟩ => ⟨S16, .f32⟩
  | .hbm, ⟨49, _⟩ => ⟨S8x2x2, .f32⟩
  | .hbm, ⟨50, _⟩ => ⟨S8x4, .f32⟩
  | .hbm, ⟨51, _⟩ => ⟨S8x1, .f32⟩
  | .hbm, ⟨52, _⟩ => ⟨S8x1, .f32⟩
  | .hbm, ⟨53, _⟩ => ⟨S8x1, .f32⟩
  | .hbm, ⟨54, _⟩ => ⟨S8x1, .f32⟩
  | .hbm, ⟨55, _⟩ => ⟨S8x1, .f32⟩
  | .hbm, ⟨56, _⟩ => ⟨S8x1, .f32⟩
  | .hbm, ⟨57, _⟩ => ⟨S8x1, .f32⟩
  | .hbm, ⟨58, _⟩ => ⟨S8x1, .f32⟩
  | .hbm, ⟨59, _⟩ => ⟨S_, .f32⟩
  | .hbm, ⟨60, _⟩ => ⟨S8x2, .f32⟩
  | .hbm, ⟨61, _⟩ => ⟨S8x16, .f32⟩
  | .hbm, ⟨62, _⟩ => ⟨S1x16, .f32⟩
  | .hbm, ⟨63, _⟩ => ⟨S9x16, .f32⟩
  | .hbm, ⟨64, _⟩ => ⟨S131072x1, .f32⟩
  | .hbm, ⟨65, _⟩ => ⟨S131072, .f32⟩
  | .hbm, ⟨66, _⟩ => ⟨S16x64x128, .f32⟩
  | .hbm, ⟨67, _⟩ => ⟨S131072x1, .f32⟩
  | .hbm, ⟨68, _⟩ => ⟨S131072, .f32⟩
  | .hbm, ⟨69, _⟩ => ⟨S16x64x128, .f32⟩
  | .hbm, ⟨70, _⟩ => ⟨S16x64x128, .f32⟩
  | .hbm, ⟨71, _⟩ => ⟨S16x64x128, .f32⟩
  | .hbm, ⟨72, _⟩ => ⟨S16x64x128, .f32⟩
  | .hbm, ⟨73, _⟩ => ⟨S131072x1, .f32⟩
  | .hbm, ⟨74, _⟩ => ⟨S131072x1, .f32⟩
  | .hbm, ⟨75, _⟩ => ⟨S131072x2, .f32⟩
  | .hbm, ⟨76, _⟩ => ⟨S131072, .f32⟩
  | .local _ .vmem, ⟨0, _⟩ => ⟨S1x64x128, .f32⟩
  | .local _ .vmem, ⟨1, _⟩ => ⟨S1x64x128, .f32⟩
  | .local _ .vmem, ⟨2, _⟩ => ⟨S1x64x128, .f32⟩
  | .local _ .vmem, ⟨3, _⟩ => ⟨S1x64x128, .f32⟩
  | .local _ .vmem, ⟨4, _⟩ => ⟨S1x64x128, .f32⟩
  | .local _ .vmem, ⟨5, _⟩ => ⟨S1x64x128, .f32⟩
  | .local _ .vmem, ⟨6, _⟩ => ⟨S1x64x128, .f32⟩
  | .local _ .vmem, ⟨7, _⟩ => ⟨S1x64x128, .f32⟩
  | .local _ .vmem, ⟨8, _⟩ => ⟨S1x64x128, .f32⟩
  | .local _ .vmem, ⟨9, _⟩ => ⟨S1x64x128, .f32⟩
  | .local _ .smem, ⟨0, _⟩ => ⟨S9x16, .f32⟩
  | _, _ => ⟨S131072x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_5 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55_0 : Ref sig .tc := ⟨.hbm, 70, rfl⟩
abbrev main_v55_1 : Ref sig .tc := ⟨.hbm, 71, rfl⟩
abbrev main_v55_2 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S9x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S131072x2 : Shape := ⟨2, ![131072, 2]⟩
abbrev S9x2x2 : Shape := ⟨3, ![9, 2, 2]⟩
abbrev S8x2 : Shape := ⟨2, ![8, 2]⟩
abbrev S8x512x1 : Shape := ⟨3, ![8, 512, 1]⟩
abbrev S8x512 : Shape := ⟨2, ![8, 512]⟩
abbrev S8x2x512 : Shape := ⟨3, ![8, 2, 512]⟩
abbrev S1x2x2 : Shape := ⟨3, ![1, 2, 2]⟩
abbrev S2x2 : Shape := ⟨2, ![2, 2]⟩
abbrev S1x1 : Shape := ⟨2, ![1, 1]⟩
abbrev S_ : Shape := ⟨0, ![]⟩
abbrev S131072 : Shape := ⟨1, ![131072]⟩
abbrev S8x2x2 : Shape := ⟨3, ![8, 2, 2]⟩
abbrev S1x2 : Shape := ⟨2, ![1, 2]⟩
abbrev S2 : Shape := ⟨1, ![2]⟩
abbrev S1x512x1 : Shape := ⟨3, ![1, 512, 1]⟩
abbrev S512x1 : Shape := ⟨2, ![512, 1]⟩
abbrev S1x512 : Shape := ⟨2, ![1, 512]⟩
abbrev S512 : Shape := ⟨1, ![512]⟩
abbrev S1x2x512 : Shape := ⟨3, ![1, 2, 512]⟩
abbrev S2x512 : Shape := ⟨2, ![2, 512]⟩
abbrev S131072x1 : Shape := ⟨2, ![131072, 1]⟩
abbrev S131072x512 : Shape := ⟨2, ![131072, 512]⟩
abbrev S512x2 : Shape := ⟨2, ![512, 2]⟩

abbrev nBuf : Space → Nat
  | .hbm => 136
  | .vmem => 0
  | .smem => 0
  | _ => 0

abbrev hbmTy0_0 (i : Nat) : BufTy := match i % 128 with
  | 0 => ⟨S131072x2, .f32⟩
  | 1 => ⟨S9x2x2, .f32⟩
  | 2 => ⟨S8x2, .f32⟩
  | 3 => ⟨S8x2, .f32⟩
  | 4 => ⟨S8x512x1, .f32⟩
  | 5 => ⟨S8x512, .f32⟩
  | 6 => ⟨S8x2x512, .f32⟩
  | 7 => ⟨S8x2, .f32⟩
  | 8 => ⟨S1x2x2, .f32⟩
  | 9 => ⟨S2x2, .f32⟩
  | 10 => ⟨S2x2, .f32⟩
  | 11 => ⟨S131072x2, .f32⟩
  | 12 => ⟨S1x1, .f32⟩
  | 13 => ⟨S_, .f32⟩
  | 14 => ⟨S1x1, .f32⟩
  | 15 => ⟨S_, .f32⟩
  | 16 => ⟨S1x1, .f32⟩
  | 17 => ⟨S_, .f32⟩
  | 18 => ⟨S1x1, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S131072, .f32⟩
  | 27 => ⟨S8x2x2, .f32⟩
  | 28 => ⟨S_, .i32⟩
  | 29 => ⟨S8x2x2, .f32⟩
  | 30 => ⟨S8x2, .f32⟩
  | 31 => ⟨S8x2, .f32⟩
  | 32 => ⟨S8x512x1, .f32⟩
  | 33 => ⟨S8x512, .f32⟩
  | 34 => ⟨S8x2x512, .f32⟩
  | 35 => ⟨S8x2, .f32⟩
  | 36 => ⟨S_, .i32⟩
  | 37 => ⟨S131072x2, .f32⟩
  | 38 => ⟨S131072, .f32⟩
  | 39 => ⟨S_, .i32⟩
  | 40 => ⟨S_, .i1⟩
  | 41 => ⟨S_, .i32⟩
  | 42 => ⟨S_, .i32⟩
  | 43 => ⟨S1x2x2, .f32⟩
  | 44 => ⟨S2x2, .f32⟩
  | 45 => ⟨S_, .i32⟩
  | 46 => ⟨S1x2, .f32⟩
  | 47 => ⟨S2, .f32⟩
  | 48 => ⟨S_, .i32⟩
  | 49 => ⟨S1x2, .f32⟩
  | 50 => ⟨S2, .f32⟩
  | 51 => ⟨S_, .i32⟩
  | 52 => ⟨S_, .i32⟩
  | 53 => ⟨S1x512x1, .f32⟩
  | 54 => ⟨S512x1, .f32⟩
  | 55 => ⟨S_, .i32⟩
  | 56 => ⟨S1x512, .f32⟩
  | 57 => ⟨S512, .f32⟩
  | 58 => ⟨S_, .i32⟩
  | 59 => ⟨S_, .i32⟩
  | 60 => ⟨S1x2x512, .f32⟩
  | 61 => ⟨S2x512, .f32⟩
  | 62 => ⟨S_, .i32⟩
  | 63 => ⟨S1x2, .f32⟩
  | 64 => ⟨S2, .f32⟩
  | 65 => ⟨S2, .f32⟩
  | 66 => ⟨S1x2, .f32⟩
  | 67 => ⟨S131072x2, .f32⟩
  | 68 => ⟨S131072x2, .f32⟩
  | 69 => ⟨S1x2, .f32⟩
  | 70 => ⟨S131072x2, .f32⟩
  | 71 => ⟨S131072x2, .f32⟩
  | 72 => ⟨S_, .f32⟩
  | 73 => ⟨S_, .f32⟩
  | 74 => ⟨S131072, .f32⟩
  | 75 => ⟨S131072, .f32⟩
  | 76 => ⟨S131072x1, .f32⟩
  | 77 => ⟨S1x512, .f32⟩
  | 78 => ⟨S131072x512, .f32⟩
  | 79 => ⟨S1x512, .f32⟩
  | 80 => ⟨S131072x512, .f32⟩
  | 81 => ⟨S131072x512, .f32⟩
  | 82 => ⟨S_, .f32⟩
  | 83 => ⟨S131072x512, .f32⟩
  | 84 => ⟨S131072x512, .f32⟩
  | 85 => ⟨S512x2, .f32⟩
  | 86 => ⟨S131072x2, .f32⟩
  | 87 => ⟨S1x2, .f32⟩
  | 88 => ⟨S131072x2, .f32⟩
  | 89 => ⟨S131072x2, .f32⟩
  | 90 => ⟨S131072x1, .f32⟩
  | 91 => ⟨S131072, .f32⟩
  | 92 => ⟨S131072, .f32⟩
  | 93 => ⟨S131072x1, .f32⟩
  | 94 => ⟨S131072, .f32⟩
  | 95 => ⟨S131072x1, .f32⟩
  | 96 => ⟨S131072, .f32⟩
  | 97 => ⟨S131072x1, .f32⟩
  | 98 => ⟨S131072, .f32⟩
  | 99 => ⟨S131072, .f32⟩
  | 100 => ⟨S131072, .f32⟩
  | 101 => ⟨S131072, .f32⟩
  | 102 => ⟨S131072x1, .f32⟩
  | 103 => ⟨S131072x1, .f32⟩
  | 104 => ⟨S131072x2, .f32⟩
  | 105 => ⟨S131072, .f32⟩
  | 106 => ⟨S2x2, .f32⟩
  | 107 => ⟨S131072x2, .f32⟩
  | 108 => ⟨S1x1, .f32⟩
  | 109 => ⟨S_, .f32⟩
  | 110 => ⟨S1x1, .f32⟩
  | 111 => ⟨S_, .f32⟩
  | 112 => ⟨S1x1, .f32⟩
  | 113 => ⟨S_, .f32⟩
  | 114 => ⟨S1x1, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S131072, .f32⟩
  | 123 => ⟨S131072, .f32⟩
  | 124 => ⟨S_, .i32⟩
  | 125 => ⟨S_, .i32⟩
  | 126 => ⟨S131072x2, .f32⟩
  | 127 => ⟨S_, .f32⟩
  | _ => ⟨S131072x2, .f32⟩

abbrev hbmTy0_1 (i : Nat) : BufTy := match i % 128 with
  | 0 => ⟨S131072, .f32⟩
  | 1 => ⟨S_, .f32⟩
  | 2 => ⟨S131072, .f32⟩
  | 3 => ⟨S131072, .f32⟩
  | 4 => ⟨S_, .f32⟩
  | 5 => ⟨S131072, .f32⟩
  | 6 => ⟨S131072, .f32⟩
  | 7 => ⟨S131072, .f32⟩
  | _ => ⟨S131072x2, .f32⟩

abbrev hbmTy (i : Nat) : BufTy := match i / 128 with
  | 0 => hbmTy0_0 i
  | 1 => hbmTy0_1 i
  | _ => ⟨S131072x2, .f32⟩

abbrev bufTy : (tb : Table) → Fin (tcTables nBuf tb) → BufTy
  | .hbm, ⟨i, _⟩ => hbmTy i
  | _, _ => ⟨S131072x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_v4_0 : Ref sig .tc := ⟨.hbm, 24, rfl⟩
abbrev main_v4_1 : Ref sig .tc := ⟨.hbm, 25, rfl⟩
abbrev main_v5 : Ref sig .tc := ⟨.hbm, 26, rfl⟩
abbrev main_v6 : Ref sig .tc := ⟨.hbm, 27, rfl⟩
abbrev main_c : Ref sig .tc := ⟨.hbm, 28, rfl⟩
abbrev main_v7_0 : Ref sig .tc := ⟨.hbm, 29, rfl⟩
abbrev main_v7_1 : Ref sig .tc := ⟨.hbm, 30, rfl⟩
abbrev main_v7_2 : Ref sig .tc := ⟨.hbm, 31, rfl⟩
abbrev main_v7_3 : Ref sig .tc := ⟨.hbm, 32, rfl⟩
abbrev main_v7_4 : Ref sig .tc := ⟨.hbm, 33, rfl⟩
abbrev main_v7_5 : Ref sig .tc := ⟨.hbm, 34, rfl⟩
abbrev main_v7_6 : Ref sig .tc := ⟨.hbm, 35, rfl⟩
abbrev main_v7_7 : Ref sig .tc := ⟨.hbm, 36, rfl⟩
abbrev main_v7_8 : Ref sig .tc := ⟨.hbm, 37, rfl⟩
abbrev main_v7_9 : Ref sig .tc := ⟨.hbm, 38, rfl⟩
abbrev main_while0c_c_11 : Ref sig .tc := ⟨.hbm, 39, rfl⟩
abbrev main_while0c_v15 : Ref sig .tc := ⟨.hbm, 40, rfl⟩
abbrev main_while0b_call1_c : Ref sig .tc := ⟨.hbm, 41, rfl⟩
abbrev main_while0b_call1_c_0 : Ref sig .tc := ⟨.hbm, 42, rfl⟩
abbrev main_while0b_call1_v0 : Ref sig .tc := ⟨.hbm, 43, rfl⟩
abbrev main_while0b_v15 : Ref sig .tc := ⟨.hbm, 44, rfl⟩
abbrev main_while0b_call2_c : Ref sig .tc := ⟨.hbm, 45, rfl⟩
abbrev main_while0b_call2_v0 : Ref sig .tc := ⟨.hbm, 46, rfl⟩
abbrev main_while0b_v16 : Ref sig .tc := ⟨.hbm, 47, rfl⟩
abbrev main_while0b_call3_c : Ref sig .tc := ⟨.hbm, 48, rfl⟩
abbrev main_while0b_call3_v0 : Ref sig .tc := ⟨.hbm, 49, rfl⟩
abbrev main_while0b_v17 : Ref sig .tc := ⟨.hbm, 50, rfl⟩
abbrev main_while0b_call4_c : Ref sig .tc := ⟨.hbm, 51, rfl⟩
abbrev main_while0b_call4_c_0 : Ref sig .tc := ⟨.hbm, 52, rfl⟩
abbrev main_while0b_call4_v0 : Ref sig .tc := ⟨.hbm, 53, rfl⟩
abbrev main_while0b_v18 : Ref sig .tc := ⟨.hbm, 54, rfl⟩
abbrev main_while0b_call5_c : Ref sig .tc := ⟨.hbm, 55, rfl⟩
abbrev main_while0b_call5_v0 : Ref sig .tc := ⟨.hbm, 56, rfl⟩
abbrev main_while0b_v19 : Ref sig .tc := ⟨.hbm, 57, rfl⟩
abbrev main_while0b_call6_c : Ref sig .tc := ⟨.hbm, 58, rfl⟩
abbrev main_while0b_call6_c_0 : Ref sig .tc := ⟨.hbm, 59, rfl⟩
abbrev main_while0b_call6_v0 : Ref sig .tc := ⟨.hbm, 60, rfl⟩
abbrev main_while0b_v20 : Ref sig .tc := ⟨.hbm, 61, rfl⟩
abbrev main_while0b_call7_c : Ref sig .tc := ⟨.hbm, 62, rfl⟩
abbrev main_while0b_call7_v0 : Ref sig .tc := ⟨.hbm, 63, rfl⟩
abbrev main_while0b_v21 : Ref sig .tc := ⟨.hbm, 64, rfl⟩
abbrev main_while0b_v22 : Ref sig .tc := ⟨.hbm, 65, rfl⟩
abbrev main_while0b_v23 : Ref sig .tc := ⟨.hbm, 66, rfl⟩
abbrev main_while0b_v24 : Ref sig .tc := ⟨.hbm, 67, rfl⟩
abbrev main_while0b_v25 : Ref sig .tc := ⟨.hbm, 68, rfl⟩
abbrev main_while0b_v26 : Ref sig .tc := ⟨.hbm, 69, rfl⟩
abbrev main_while0b_v27 : Ref sig .tc := ⟨.hbm, 70, rfl⟩
abbrev main_while0b_v28 : Ref sig .tc := ⟨.hbm, 71, rfl⟩
abbrev main_while0b_cst_11 : Ref sig .tc := ⟨.hbm, 72, rfl⟩
abbrev main_while0b_v29 : Ref sig .tc := ⟨.hbm, 73, rfl⟩
abbrev main_while0b_v30 : Ref sig .tc := ⟨.hbm, 74, rfl⟩
abbrev main_while0b_v31 : Ref sig .tc := ⟨.hbm, 75, rfl⟩
abbrev main_while0b_v32 : Ref sig .tc := ⟨.hbm, 76, rfl⟩
abbrev main_while0b_v33 : Ref sig .tc := ⟨.hbm, 77, rfl⟩
abbrev main_while0b_v34 : Ref sig .tc := ⟨.hbm, 78, rfl⟩
abbrev main_while0b_v35 : Ref sig .tc := ⟨.hbm, 79, rfl⟩
abbrev main_while0b_v36 : Ref sig .tc := ⟨.hbm, 80, rfl⟩
abbrev main_while0b_v37 : Ref sig .tc := ⟨.hbm, 81, rfl⟩
abbrev main_while0b_call8_cst : Ref sig .tc := ⟨.hbm, 82, rfl⟩
abbrev main_while0b_call8_v0 : Ref sig .tc := ⟨.hbm, 83, rfl⟩
abbrev main_while0b_v38 : Ref sig .tc := ⟨.hbm, 84, rfl⟩
abbrev main_while0b_v39 : Ref sig .tc := ⟨.hbm, 85, rfl⟩
abbrev main_while0b_v40 : Ref sig .tc := ⟨.hbm, 86, rfl⟩
abbrev main_while0b_v41 : Ref sig .tc := ⟨.hbm, 87, rfl⟩
abbrev main_while0b_v42 : Ref sig .tc := ⟨.hbm, 88, rfl⟩
abbrev main_while0b_v43 : Ref sig .tc := ⟨.hbm, 89, rfl⟩
abbrev main_while0b_v44 : Ref sig .tc := ⟨.hbm, 90, rfl⟩
abbrev main_while0b_v45 : Ref sig .tc := ⟨.hbm, 91, rfl⟩
abbrev main_while0b_v46 : Ref sig .tc := ⟨.hbm, 92, rfl⟩
abbrev main_while0b_v47 : Ref sig .tc := ⟨.hbm, 93, rfl⟩
abbrev main_while0b_v48 : Ref sig .tc := ⟨.hbm, 94, rfl⟩
abbrev main_while0b_v49 : Ref sig .tc := ⟨.hbm, 95, rfl⟩
abbrev main_while0b_v50 : Ref sig .tc := ⟨.hbm, 96, rfl⟩
abbrev main_while0b_v51 : Ref sig .tc := ⟨.hbm, 97, rfl⟩
abbrev main_while0b_v52 : Ref sig .tc := ⟨.hbm, 98, rfl⟩
abbrev main_while0b_v53 : Ref sig .tc := ⟨.hbm, 99, rfl⟩
abbrev main_while0b_v54 : Ref sig .tc := ⟨.hbm, 100, rfl⟩
abbrev main_while0b_v55 : Ref sig .tc := ⟨.hbm, 101, rfl⟩
abbrev main_while0b_v56 : Ref sig .tc := ⟨.hbm, 102, rfl⟩
abbrev main_while0b_v57 : Ref sig .tc := ⟨.hbm, 103, rfl⟩
abbrev main_while0b_v58 : Ref sig .tc := ⟨.hbm, 104, rfl⟩
abbrev main_while0b_v59 : Ref sig .tc := ⟨.hbm, 105, rfl⟩
abbrev main_while0b_v60 : Ref sig .tc := ⟨.hbm, 106, rfl⟩
abbrev main_while0b_v61 : Ref sig .tc := ⟨.hbm, 107, rfl⟩
abbrev main_while0b_call9_v0 : Ref sig .tc := ⟨.hbm, 108, rfl⟩
abbrev main_while0b_call9_v1 : Ref sig .tc := ⟨.hbm, 109, rfl⟩
abbrev main_while0b_call9_v2 : Ref sig .tc := ⟨.hbm, 110, rfl⟩
abbrev main_while0b_call9_v3 : Ref sig .tc := ⟨.hbm, 111, rfl⟩
abbrev main_while0b_call9_v4 : Ref sig .tc := ⟨.hbm, 112, rfl⟩
abbrev main_while0b_call9_v5 : Ref sig .tc := ⟨.hbm, 113, rfl⟩
abbrev main_while0b_call9_v6 : Ref sig .tc := ⟨.hbm, 114, rfl⟩
abbrev main_while0b_call9_v7 : Ref sig .tc := ⟨.hbm, 115, rfl⟩
abbrev main_while0b_call9_v8 : Ref sig .tc := ⟨.hbm, 116, rfl⟩
abbrev main_while0b_call9_v9 : Ref sig .tc := ⟨.hbm, 117, rfl⟩
abbrev main_while0b_call9_v10 : Ref sig .tc := ⟨.hbm, 118, rfl⟩
abbrev main_while0b_call9_v11 : Ref sig .tc := ⟨.hbm, 119, rfl⟩
abbrev main_while0b_v62_0 : Ref sig .tc := ⟨.hbm, 120, rfl⟩
abbrev main_while0b_v62_1 : Ref sig .tc := ⟨.hbm, 121, rfl⟩
abbrev main_while0b_v63 : Ref sig .tc := ⟨.hbm, 122, rfl⟩
abbrev main_while0b_v64 : Ref sig .tc := ⟨.hbm, 123, rfl⟩
abbrev main_while0b_c_12 : Ref sig .tc := ⟨.hbm, 124, rfl⟩
abbrev main_while0b_v65 : Ref sig .tc := ⟨.hbm, 125, rfl⟩
abbrev main_v8 : Ref sig .tc := ⟨.hbm, 126, rfl⟩
abbrev main_cst : Ref sig .tc := ⟨.hbm, 127, rfl⟩
abbrev main_v9 : Ref sig .tc := ⟨.hbm, 128, rfl⟩
abbrev main_cst_0 : Ref sig .tc := ⟨.hbm, 129, rfl⟩
abbrev main_v10 : Ref sig .tc := ⟨.hbm, 130, rfl⟩
abbrev main_v11 : Ref sig .tc := ⟨.hbm, 131, rfl⟩
abbrev main_cst_1 : Ref sig .tc := ⟨.hbm, 132, rfl⟩
abbrev main_v12 : Ref sig .tc := ⟨.hbm, 133, rfl⟩
abbrev main_v13 : Ref sig .tc := ⟨.hbm, 134, rfl⟩
abbrev main_v14 : Ref sig .tc := ⟨.hbm, 135, rfl⟩

abbrev nD : Nat := 1
abbrev τ : Topo := Topo.v7x

variable {F : FTy → Type} [FloatOps F]

abbrev main_while0_count : Scf.Loop 32 := ⟨0#32, 8#32, 1#32⟩
-- ==== Proof.Flow.lean ====
/- The flow on one sample, in extended reals: the mixing of the two coordinates, one step as the kernel's table of constants
   states it, and the state after each step. -/
module

public import Idealize.ShloMosaic.PureOps.Ideal

@[expose] public section

noncomputable section

namespace Cert.Proof.Flow

open Idealize.ShloMosaic

/-- The table of constants: row 0 the first mixing, row `k + 1` step `k`'s scalars. -/
abbrev Tbl := ℕ → ℕ → EReal

/-- One sample's state: its two coordinates and the sum of the log-scales. -/
structure St where
  y0 : EReal
  y1 : EReal
  s : EReal

/-- The first coordinate after a step's scale and shift. -/
def actA (r : ℕ → EReal) (y0 : EReal) : EReal := y0 * r 4 + r 5
/-- The second coordinate after a step's scale and shift. -/
def actB (r : ℕ → EReal) (y1 : EReal) : EReal := y1 * r 6 + r 7
/-- The log-scale of a step, from its first coordinate `a`. -/
def lsc (r : ℕ → EReal) (a : EReal) : EReal := Ideal.tanh (r 8 + r 10 * max a 0 + r 11 * min a 0)
/-- The shift of a step, from its first coordinate `a`. -/
def sft (r : ℕ → EReal) (a : EReal) : EReal := r 9 + r 12 * max a 0 + r 13 * min a 0
/-- The second coordinate after the coupling. -/
def cpl (r : ℕ → EReal) (a b : EReal) : EReal := b * Ideal.exp (lsc r a) + sft r a
/-- The two mixed coordinates. -/
def mix0 (r : ℕ → EReal) (a d : EReal) : EReal := a * r 0 + d * r 1
def mix1 (r : ℕ → EReal) (a d : EReal) : EReal := a * r 2 + d * r 3

/-- One step by a row of the table. -/
def stepK (r : ℕ → EReal) (p : St) : St where
  y0 := mix0 r (actA r p.y0) (cpl r (actA r p.y0) (actB r p.y1))
  y1 := mix1 r (actA r p.y0) (cpl r (actA r p.y0) (actB r p.y1))
  s := p.s + lsc r (actA r p.y0)

/-- The state after `k` steps by the table, from a sample's two coordinates. -/
def flowK (C : Tbl) (a b : EReal) : ℕ → St
  | 0 => ⟨mix0 (C 0) a b, mix1 (C 0) a b, 0⟩
  | k + 1 => stepK (C (k + 1)) (flowK C a b k)

/-- Step `k`'s scaled first coordinate, second coordinate, log-scale and coupled second coordinate. -/
def fA (C : Tbl) (a b : EReal) (k : ℕ) : EReal := actA (C (k + 1)) (flowK C a b k).y0
def fB (C : Tbl) (a b : EReal) (k : ℕ) : EReal := actB (C (k + 1)) (flowK C a b k).y1
def fL (C : Tbl) (a b : EReal) (k : ℕ) : EReal := lsc (C (k + 1)) (fA C a b k)
def fD (C : Tbl) (a b : EReal) (k : ℕ) : EReal := cpl (C (k + 1)) (fA C a b k) (fB C a b k)

/-- The log-density the kernel stores, from the final state and the table's total. -/
def logpK (C : Tbl) (p : St) : EReal :=
  C 0 4 + p.s - Ideal.ofBits .f32 0x3F000000#32 * (p.y0 * p.y0 + p.y1 * p.y1)

section Equations

variable (C : Tbl) (a b : EReal)

theorem flow0_y0 : (flowK C a b 0).y0 = a * C 0 0 + b * C 0 1 := rfl
theorem flow0_y1 : (flowK C a b 0).y1 = a * C 0 2 + b * C 0 3 := rfl
theorem flow0_s : (flowK C a b 0).s = 0 := rfl

theorem flow_y0 (k k' : ℕ) (h : k' = k + 1) : (flowK C a b k').y0 = fA C a b k * C k' 0 + fD C a b k * C k' 1 := by subst h; rfl
theorem flow_y1 (k k' : ℕ) (h : k' = k + 1) : (flowK C a b k').y1 = fA C a b k * C k' 2 + fD C a b k * C k' 3 := by subst h; rfl
theorem flow_s (k k' : ℕ) (h : k' = k + 1) : (flowK C a b k').s = (flowK C a b k).s + fL C a b k := by subst h; rfl

theorem fA_eq (k k' : ℕ) (h : k' = k + 1) : fA C a b k = (flowK C a b k).y0 * C k' 4 + C k' 5 := by subst h; rfl
theorem fB_eq (k k' : ℕ) (h : k' = k + 1) : fB C a b k = (flowK C a b k).y1 * C k' 6 + C k' 7 := by subst h; rfl
theorem fL_eq (k k' : ℕ) (h : k' = k + 1) :
    fL C a b k = Ideal.tanh (C k' 8 + C k' 10 * max (fA C a b k) 0 + C k' 11 * min (fA C a b k) 0) := by subst h; rfl
theorem fD_eq (k k' : ℕ) (h : k' = k + 1) :
    fD C a b k = fB C a b k * Ideal.exp (fL C a b k) + (C k' 9 + C k' 12 * max (fA C a b k) 0 + C k' 13 * min (fA C a b k) 0) := by
  subst h; rfl

end Equations

end Cert.Proof.Flow

end
-- ==== Proof.KernelBlock.lean ====
/- What one block of the kernel computes, read at one sample: each value the body carries from one part to the next is a
   value of `Flow`'s chain at that sample, so the three blocks stored are the chain's final state. -/
module

public import proofs.«01_k».proof.Proof.Flow
public import proofs.«01_k».proof.Proof.Gen.KernelIdeal.Frame
public import Idealize.ShloMosaic.Lib.Pipeline.Value
public import Idealize.ShloMosaic.Lib.Pipeline.ValueKit
public import Idealize.ShloMosaic.Lib.Pointwise
public import Idealize.ShloMosaic.Lib.ValueLayout

@[expose] public section

noncomputable section

namespace Cert.Proof.Block

open Cert.KernelIdeal Cert.KernelIdeal.Gen Idealize.ShloMosaic Idealize.ShloMosaic.TcCoe Idealize.SL.Sem
open Cert.Proof.Flow

/-- The table a block of constants states: its entry where it has one. -/
def tab (x : Vec Ideal S9x16 .f32) : Tbl := fun k l =>
  if h : k < 9 ∧ l < 16 then x (ix2 (⟨k, h.1⟩ : Fin 9) (⟨l, h.2⟩ : Fin 16)) else 0

theorem zero_bits : Scalar.ofBits (F := Ideal) .f32 0x00000000#32 = (0 : EReal) := by
  show Ideal.ofBits .f32 0x00000000#32 = 0
  simp [Ideal.ofBits, Ideal.ieee]

/-- Loading one entry of the whole table reads that entry. -/
theorem word_at (arg1 : Memref sig .tc .smem S9x16 .f32) (h : arg1.IsWhole) (x : Vec Ideal S9x16 .f32) (k l : ℕ)
    (hb : (![k, l] : Fin 2 → ℕ) 0 + S1x1.size 0 ≤ 9 ∧ (![k, l] : Fin 2 → ℕ) 1 + S1x1.size 1 ≤ 16) (hi) (q) :
    View.readAt (Elt Ideal) arg1.view (Rect.unit (s := S9x16) ![k, l] S1x1.size hi).toLoadRect (h.unread x) q = tab x k l := by
  rw [View.readAt_eq_ld, h.read_unread]
  have hk : k < 9 := by have := hb.1; simp at this; omega
  have hl : l < 16 := by have := hb.2; simp at this; omega
  unfold tab
  rw [dif_pos ⟨hk, hl⟩]
  refine congrArg x (funext fun a => Fin.ext ?_)
  have q0 : (q 0).val = 0 := by have : (q 0).val < 1 := (q 0).isLt; omega
  have q1 : (q 1).val = 0 := by have : (q 1).val < 1 := (q 1).isLt; omega
  match a with
  | ⟨0, _⟩ => show k + 1 * (q 0).val = k; omega
  | ⟨1, _⟩ => show l + 1 * (q 1).val = l; omega

section Words

variable (c : Dev nD) (arg1 : Memref sig .tc .smem S9x16 .f32) (harg1 : arg1.IsWhole) (x0 : Vec Ideal S9x16 .f32)

theorem w0 : kernelRun0_A.sl.r c arg1 harg1 x0 = tab x0 0 0 := by
  unfold kernelRun0_A.sl.r; exact word_at arg1 harg1 x0 0 0 (by decide) _ _
theorem w1 : kernelRun0_A.sl.r_1 c arg1 harg1 x0 = tab x0 0 1 := by
  unfold kernelRun0_A.sl.r_1; exact word_at arg1 harg1 x0 0 1 (by decide) _ _
theorem w2 : kernelRun0_A.sl.r_2 c arg1 harg1 x0 = tab x0 0 2 := by
  unfold kernelRun0_A.sl.r_2; exact word_at arg1 harg1 x0 0 2 (by decide) _ _
theorem w3 : kernelRun0_A.sl.r_3 c arg1 harg1 x0 = tab x0 0 3 := by
  unfold kernelRun0_A.sl.r_3; exact word_at arg1 harg1 x0 0 3 (by decide) _ _
theorem w4 : kernelRun0_A.sl.r_4 c arg1 harg1 x0 = tab x0 0 4 := by
  unfold kernelRun0_A.sl.r_4; exact word_at arg1 harg1 x0 0 4 (by decide) _ _
theorem w5 : kernelRun0_A.sl.r_5 c arg1 harg1 x0 = tab x0 1 4 := by
  unfold kernelRun0_A.sl.r_5; exact word_at arg1 harg1 x0 1 4 (by decide) _ _
theorem w6 : kernelRun0_A.sl.r_6 c arg1 harg1 x0 = tab x0 1 5 := by
  unfold kernelRun0_A.sl.r_6; exact word_at arg1 harg1 x0 1 5 (by decide) _ _
theorem w7 : kernelRun0_A.sl.r_7 c arg1 harg1 x0 = tab x0 1 6 := by
  unfold kernelRun0_A.sl.r_7; exact word_at arg1 harg1 x0 1 6 (by decide) _ _
theorem w8 : kernelRun0_A.sl.r_8 c arg1 harg1 x0 = tab x0 1 7 := by
  unfold kernelRun0_A.sl.r_8; exact word_at arg1 harg1 x0 1 7 (by decide) _ _
theorem w11 : kernelRun0_A.sl.r_11 c arg1 harg1 x0 = tab x0 1 8 := by
  unfold kernelRun0_A.sl.r_11; exact word_at arg1 harg1 x0 1 8 (by decide) _ _
theorem w12 : kernelRun0_A.sl.r_12 c arg1 harg1 x0 = tab x0 1 10 := by
  unfold kernelRun0_A.sl.r_12; exact word_at arg1 harg1 x0 1 10 (by decide) _ _
theorem w13 : kernelRun0_A.sl.r_13 c arg1 harg1 x0 = tab x0 1 11 := by
  unfold kernelRun0_A.sl.r_13; exact word_at arg1 harg1 x0 1 11 (by decide) _ _
theorem w14 : kernelRun0_A.sl.r_14 c arg1 harg1 x0 = tab x0 1 9 := by
  unfold kernelRun0_A.sl.r_14; exact word_at arg1 harg1 x0 1 9 (by decide) _ _
theorem w15 : kernelRun0_A.sl.r_15 c arg1 harg1 x0 = tab x0 1 12 := by
  unfold kernelRun0_A.sl.r_15; exact word_at arg1 harg1 x0 1 12 (by decide) _ _
theorem w16 : kernelRun0_A.sl.r_16 c arg1 harg1 x0 = tab x0 1 13 := by
  unfold kernelRun0_A.sl.r_16; exact word_at arg1 harg1 x0 1 13 (by decide) _ _
theorem w17 : kernelRun0_A.sl.r_17 c arg1 harg1 x0 = tab x0 1 0 := by
  unfold kernelRun0_A.sl.r_17; exact word_at arg1 harg1 x0 1 0 (by decide) _ _
theorem w18 : kernelRun0_A.sl.r_18 c arg1 harg1 x0 = tab x0 1 1 := by
  unfold kernelRun0_A.sl.r_18; exact word_at arg1 harg1 x0 1 1 (by decide) _ _
theorem w23 : kernelRun0_A.sl.r_23 c arg1 harg1 x0 = tab x0 1 2 := by
  unfold kernelRun0_A.sl.r_23; exact word_at arg1 harg1 x0 1 2 (by decide) _ _
theorem w24 : kernelRun0_A.sl.r_24 c arg1 harg1 x0 = tab x0 1 3 := by
  unfold kernelRun0_A.sl.r_24; exact word_at arg1 harg1 x0 1 3 (by decide) _ _
theorem w25 : kernelRun0_A.sl.r_25 c arg1 harg1 x0 = tab x0 2 4 := by
  unfold kernelRun0_A.sl.r_25; exact word_at arg1 harg1 x0 2 4 (by decide) _ _
theorem w26 : kernelRun0_A.sl.r_26 c arg1 harg1 x0 = tab x0 2 5 := by
  unfold kernelRun0_A.sl.r_26; exact word_at arg1 harg1 x0 2 5 (by decide) _ _
theorem w27 : kernelRun0_A.sl.r_27 c arg1 harg1 x0 = tab x0 2 6 := by
  unfold kernelRun0_A.sl.r_27; exact word_at arg1 harg1 x0 2 6 (by decide) _ _
theorem w28 : kernelRun0_A.sl.r_28 c arg1 harg1 x0 = tab x0 2 7 := by
  unfold kernelRun0_A.sl.r_28; exact word_at arg1 harg1 x0 2 7 (by decide) _ _
theorem w29 : kernelRun0_A.sl.r_29 c arg1 harg1 x0 = tab x0 2 8 := by
  unfold kernelRun0_A.sl.r_29; exact word_at arg1 harg1 x0 2 8 (by decide) _ _
theorem w30 : kernelRun0_A.sl.r_30 c arg1 harg1 x0 = tab x0 2 10 := by
  unfold kernelRun0_A.sl.r_30; exact word_at arg1 harg1 x0 2 10 (by decide) _ _
theorem w31 : kernelRun0_A.sl.r_31 c arg1 harg1 x0 = tab x0 2 11 := by
  unfold kernelRun0_A.sl.r_31; exact word_at arg1 harg1 x0 2 11 (by decide) _ _
theorem w32 : kernelRun0_A.sl.r_32 c arg1 harg1 x0 = tab x0 2 9 := by
  unfold kernelRun0_A.sl.r_32; exact word_at arg1 harg1 x0 2 9 (by decide) _ _
theorem w33 : kernelRun0_A.sl.r_33 c arg1 harg1 x0 = tab x0 2 12 := by
  unfold kernelRun0_A.sl.r_33; exact word_at arg1 harg1 x0 2 12 (by decide) _ _
theorem w39 : kernelRun0_A.sl.r_39 c arg1 harg1 x0 = tab x0 2 13 := by
  unfold kernelRun0_A.sl.r_39; exact word_at arg1 harg1 x0 2 13 (by decide) _ _
theorem w40 : kernelRun0_A.sl.r_40 c arg1 harg1 x0 = tab x0 2 0 := by
  unfold kernelRun0_A.sl.r_40; exact word_at arg1 harg1 x0 2 0 (by decide) _ _
theorem w41 : kernelRun0_A.sl.r_41 c arg1 harg1 x0 = tab x0 2 1 := by
  unfold kernelRun0_A.sl.r_41; exact word_at arg1 harg1 x0 2 1 (by decide) _ _
theorem w42 : kernelRun0_A.sl.r_42 c arg1 harg1 x0 = tab x0 2 2 := by
  unfold kernelRun0_A.sl.r_42; exact word_at arg1 harg1 x0 2 2 (by decide) _ _
theorem w43 : kernelRun0_A.sl.r_43 c arg1 harg1 x0 = tab x0 2 3 := by
  unfold kernelRun0_A.sl.r_43; exact word_at arg1 harg1 x0 2 3 (by decide) _ _
theorem w44 : kernelRun0_A.sl.r_44 c arg1 harg1 x0 = tab x0 3 4 := by
  unfold kernelRun0_A.sl.r_44; exact word_at arg1 harg1 x0 3 4 (by decide) _ _
theorem w45 : kernelRun0_A.sl.r_45 c arg1 harg1 x0 = tab x0 3 5 := by
  unfold kernelRun0_A.sl.r_45; exact word_at arg1 harg1 x0 3 5 (by decide) _ _
theorem w46 : kernelRun0_A.sl.r_46 c arg1 harg1 x0 = tab x0 3 6 := by
  unfold kernelRun0_A.sl.r_46; exact word_at arg1 harg1 x0 3 6 (by decide) _ _
theorem w47 : kernelRun0_A.sl.r_47 c arg1 harg1 x0 = tab x0 3 7 := by
  unfold kernelRun0_A.sl.r_47; exact word_at arg1 harg1 x0 3 7 (by decide) _ _
theorem w51 : kernelRun0_A.sl.r_51 c arg1 harg1 x0 = tab x0 3 8 := by
  unfold kernelRun0_A.sl.r_51; exact word_at arg1 harg1 x0 3 8 (by decide) _ _
theorem w52 : kernelRun0_A.sl.r_52 c arg1 harg1 x0 = tab x0 3 10 := by
  unfold kernelRun0_A.sl.r_52; exact word_at arg1 harg1 x0 3 10 (by decide) _ _
theorem w53 : kernelRun0_A.sl.r_53 c arg1 harg1 x0 = tab x0 3 11 := by
  unfold kernelRun0_A.sl.r_53; exact word_at arg1 harg1 x0 3 11 (by decide) _ _
theorem w54 : kernelRun0_A.sl.r_54 c arg1 harg1 x0 = tab x0 3 9 := by
  unfold kernelRun0_A.sl.r_54; exact word_at arg1 harg1 x0 3 9 (by decide) _ _
theorem w55 : kernelRun0_A.sl.r_55 c arg1 harg1 x0 = tab x0 3 12 := by
  unfold kernelRun0_A.sl.r_55; exact word_at arg1 harg1 x0 3 12 (by decide) _ _
theorem w56 : kernelRun0_A.sl.r_56 c arg1 harg1 x0 = tab x0 3 13 := by
  unfold kernelRun0_A.sl.r_56; exact word_at arg1 harg1 x0 3 13 (by decide) _ _
theorem w57 : kernelRun0_A.sl.r_57 c arg1 harg1 x0 = tab x0 3 0 := by
  unfold kernelRun0_A.sl.r_57; exact word_at arg1 harg1 x0 3 0 (by decide) _ _
theorem w58 : kernelRun0_A.sl.r_58 c arg1 harg1 x0 = tab x0 3 1 := by
  unfold kernelRun0_A.sl.r_58; exact word_at arg1 harg1 x0 3 1 (by decide) _ _
theorem w63 : kernelRun0_A.sl.r_63 c arg1 harg1 x0 = tab x0 3 2 := by
  unfold kernelRun0_A.sl.r_63; exact word_at arg1 harg1 x0 3 2 (by decide) _ _
theorem w64 : kernelRun0_A.sl.r_64 c arg1 harg1 x0 = tab x0 3 3 := by
  unfold kernelRun0_A.sl.r_64; exact word_at arg1 harg1 x0 3 3 (by decide) _ _
theorem w65 : kernelRun0_A.sl.r_65 c arg1 harg1 x0 = tab x0 4 4 := by
  unfold kernelRun0_A.sl.r_65; exact word_at arg1 harg1 x0 4 4 (by decide) _ _
theorem w66 : kernelRun0_A.sl.r_66 c arg1 harg1 x0 = tab x0 4 5 := by
  unfold kernelRun0_A.sl.r_66; exact word_at arg1 harg1 x0 4 5 (by decide) _ _
theorem w67 : kernelRun0_A.sl.r_67 c arg1 harg1 x0 = tab x0 4 6 := by
  unfold kernelRun0_A.sl.r_67; exact word_at arg1 harg1 x0 4 6 (by decide) _ _
theorem w68 : kernelRun0_A.sl.r_68 c arg1 harg1 x0 = tab x0 4 7 := by
  unfold kernelRun0_A.sl.r_68; exact word_at arg1 harg1 x0 4 7 (by decide) _ _
theorem w69 : kernelRun0_A.sl.r_69 c arg1 harg1 x0 = tab x0 4 8 := by
  unfold kernelRun0_A.sl.r_69; exact word_at arg1 harg1 x0 4 8 (by decide) _ _
theorem w70 : kernelRun0_A.sl.r_70 c arg1 harg1 x0 = tab x0 4 10 := by
  unfold kernelRun0_A.sl.r_70; exact word_at arg1 harg1 x0 4 10 (by decide) _ _
theorem w71 : kernelRun0_A.sl.r_71 c arg1 harg1 x0 = tab x0 4 11 := by
  unfold kernelRun0_A.sl.r_71; exact word_at arg1 harg1 x0 4 11 (by decide) _ _
theorem w72 : kernelRun0_A.sl.r_72 c arg1 harg1 x0 = tab x0 4 9 := by
  unfold kernelRun0_A.sl.r_72; exact word_at arg1 harg1 x0 4 9 (by decide) _ _
theorem w73 : kernelRun0_A.sl.r_73 c arg1 harg1 x0 = tab x0 4 12 := by
  unfold kernelRun0_A.sl.r_73; exact word_at arg1 harg1 x0 4 12 (by decide) _ _
theorem w79 : kernelRun0_A.sl.r_79 c arg1 harg1 x0 = tab x0 4 13 := by
  unfold kernelRun0_A.sl.r_79; exact word_at arg1 harg1 x0 4 13 (by decide) _ _
theorem w80 : kernelRun0_A.sl.r_80 c arg1 harg1 x0 = tab x0 4 0 := by
  unfold kernelRun0_A.sl.r_80; exact word_at arg1 harg1 x0 4 0 (by decide) _ _
theorem w81 : kernelRun0_A.sl.r_81 c arg1 harg1 x0 = tab x0 4 1 := by
  unfold kernelRun0_A.sl.r_81; exact word_at arg1 harg1 x0 4 1 (by decide) _ _
theorem w82 : kernelRun0_A.sl.r_82 c arg1 harg1 x0 = tab x0 4 2 := by
  unfold kernelRun0_A.sl.r_82; exact word_at arg1 harg1 x0 4 2 (by decide) _ _
theorem w83 : kernelRun0_A.sl.r_83 c arg1 harg1 x0 = tab x0 4 3 := by
  unfold kernelRun0_A.sl.r_83; exact word_at arg1 harg1 x0 4 3 (by decide) _ _
theorem w84 : kernelRun0_A.sl.r_84 c arg1 harg1 x0 = tab x0 5 4 := by
  unfold kernelRun0_A.sl.r_84; exact word_at arg1 harg1 x0 5 4 (by decide) _ _
theorem w85 : kernelRun0_A.sl.r_85 c arg1 harg1 x0 = tab x0 5 5 := by
  unfold kernelRun0_A.sl.r_85; exact word_at arg1 harg1 x0 5 5 (by decide) _ _
theorem w86 : kernelRun0_A.sl.r_86 c arg1 harg1 x0 = tab x0 5 6 := by
  unfold kernelRun0_A.sl.r_86; exact word_at arg1 harg1 x0 5 6 (by decide) _ _
theorem w87 : kernelRun0_A.sl.r_87 c arg1 harg1 x0 = tab x0 5 7 := by
  unfold kernelRun0_A.sl.r_87; exact word_at arg1 harg1 x0 5 7 (by decide) _ _
theorem w91 : kernelRun0_A.sl.r_91 c arg1 harg1 x0 = tab x0 5 8 := by
  unfold kernelRun0_A.sl.r_91; exact word_at arg1 harg1 x0 5 8 (by decide) _ _
theorem w92 : kernelRun0_A.sl.r_92 c arg1 harg1 x0 = tab x0 5 10 := by
  unfold kernelRun0_A.sl.r_92; exact word_at arg1 harg1 x0 5 10 (by decide) _ _
theorem w93 : kernelRun0_A.sl.r_93 c arg1 harg1 x0 = tab x0 5 11 := by
  unfold kernelRun0_A.sl.r_93; exact word_at arg1 harg1 x0 5 11 (by decide) _ _
theorem w94 : kernelRun0_A.sl.r_94 c arg1 harg1 x0 = tab x0 5 9 := by
  unfold kernelRun0_A.sl.r_94; exact word_at arg1 harg1 x0 5 9 (by decide) _ _
theorem w95 : kernelRun0_A.sl.r_95 c arg1 harg1 x0 = tab x0 5 12 := by
  unfold kernelRun0_A.sl.r_95; exact word_at arg1 harg1 x0 5 12 (by decide) _ _
theorem w96 : kernelRun0_A.sl.r_96 c arg1 harg1 x0 = tab x0 5 13 := by
  unfold kernelRun0_A.sl.r_96; exact word_at arg1 harg1 x0 5 13 (by decide) _ _
theorem w97 : kernelRun0_A.sl.r_97 c arg1 harg1 x0 = tab x0 5 0 := by
  unfold kernelRun0_A.sl.r_97; exact word_at arg1 harg1 x0 5 0 (by decide) _ _
theorem w98 : kernelRun0_A.sl.r_98 c arg1 harg1 x0 = tab x0 5 1 := by
  unfold kernelRun0_A.sl.r_98; exact word_at arg1 harg1 x0 5 1 (by decide) _ _
theorem w99 : kernelRun0_A.sl.r_99 c arg1 harg1 x0 = tab x0 5 2 := by
  unfold kernelRun0_A.sl.r_99; exact word_at arg1 harg1 x0 5 2 (by decide) _ _
theorem w105 : kernelRun0_A.sl.r_105 c arg1 harg1 x0 = tab x0 5 3 := by
  unfold kernelRun0_A.sl.r_105; exact word_at arg1 harg1 x0 5 3 (by decide) _ _
theorem w106 : kernelRun0_A.sl.r_106 c arg1 harg1 x0 = tab x0 6 4 := by
  unfold kernelRun0_A.sl.r_106; exact word_at arg1 harg1 x0 6 4 (by decide) _ _
theorem w107 : kernelRun0_A.sl.r_107 c arg1 harg1 x0 = tab x0 6 5 := by
  unfold kernelRun0_A.sl.r_107; exact word_at arg1 harg1 x0 6 5 (by decide) _ _
theorem w108 : kernelRun0_A.sl.r_108 c arg1 harg1 x0 = tab x0 6 6 := by
  unfold kernelRun0_A.sl.r_108; exact word_at arg1 harg1 x0 6 6 (by decide) _ _
theorem w109 : kernelRun0_A.sl.r_109 c arg1 harg1 x0 = tab x0 6 7 := by
  unfold kernelRun0_A.sl.r_109; exact word_at arg1 harg1 x0 6 7 (by decide) _ _
theorem w110 : kernelRun0_A.sl.r_110 c arg1 harg1 x0 = tab x0 6 8 := by
  unfold kernelRun0_A.sl.r_110; exact word_at arg1 harg1 x0 6 8 (by decide) _ _
theorem w111 : kernelRun0_A.sl.r_111 c arg1 harg1 x0 = tab x0 6 10 := by
  unfold kernelRun0_A.sl.r_111; exact word_at arg1 harg1 x0 6 10 (by decide) _ _
theorem w112 : kernelRun0_A.sl.r_112 c arg1 harg1 x0 = tab x0 6 11 := by
  unfold kernelRun0_A.sl.r_112; exact word_at arg1 harg1 x0 6 11 (by decide) _ _
theorem w113 : kernelRun0_A.sl.r_113 c arg1 harg1 x0 = tab x0 6 9 := by
  unfold kernelRun0_A.sl.r_113; exact word_at arg1 harg1 x0 6 9 (by decide) _ _
theorem w114 : kernelRun0_A.sl.r_114 c arg1 harg1 x0 = tab x0 6 12 := by
  unfold kernelRun0_A.sl.r_114; exact word_at arg1 harg1 x0 6 12 (by decide) _ _
theorem w120 : kernelRun0_A.sl.r_120 c arg1 harg1 x0 = tab x0 6 13 := by
  unfold kernelRun0_A.sl.r_120; exact word_at arg1 harg1 x0 6 13 (by decide) _ _
theorem w121 : kernelRun0_A.sl.r_121 c arg1 harg1 x0 = tab x0 6 0 := by
  unfold kernelRun0_A.sl.r_121; exact word_at arg1 harg1 x0 6 0 (by decide) _ _
theorem w122 : kernelRun0_A.sl.r_122 c arg1 harg1 x0 = tab x0 6 1 := by
  unfold kernelRun0_A.sl.r_122; exact word_at arg1 harg1 x0 6 1 (by decide) _ _
theorem w123 : kernelRun0_A.sl.r_123 c arg1 harg1 x0 = tab x0 6 2 := by
  unfold kernelRun0_A.sl.r_123; exact word_at arg1 harg1 x0 6 2 (by decide) _ _
theorem w124 : kernelRun0_A.sl.r_124 c arg1 harg1 x0 = tab x0 6 3 := by
  unfold kernelRun0_A.sl.r_124; exact word_at arg1 harg1 x0 6 3 (by decide) _ _
theorem w125 : kernelRun0_A.sl.r_125 c arg1 harg1 x0 = tab x0 7 4 := by
  unfold kernelRun0_A.sl.r_125; exact word_at arg1 harg1 x0 7 4 (by decide) _ _
theorem w126 : kernelRun0_A.sl.r_126 c arg1 harg1 x0 = tab x0 7 5 := by
  unfold kernelRun0_A.sl.r_126; exact word_at arg1 harg1 x0 7 5 (by decide) _ _
theorem w127 : kernelRun0_A.sl.r_127 c arg1 harg1 x0 = tab x0 7 6 := by
  unfold kernelRun0_A.sl.r_127; exact word_at arg1 harg1 x0 7 6 (by decide) _ _
theorem w128 : kernelRun0_A.sl.r_128 c arg1 harg1 x0 = tab x0 7 7 := by
  unfold kernelRun0_A.sl.r_128; exact word_at arg1 harg1 x0 7 7 (by decide) _ _
theorem w133 : kernelRun0_A.sl.r_133 c arg1 harg1 x0 = tab x0 7 8 := by
  unfold kernelRun0_A.sl.r_133; exact word_at arg1 harg1 x0 7 8 (by decide) _ _
theorem w134 : kernelRun0_A.sl.r_134 c arg1 harg1 x0 = tab x0 7 10 := by
  unfold kernelRun0_A.sl.r_134; exact word_at arg1 harg1 x0 7 10 (by decide) _ _
theorem w135 : kernelRun0_A.sl.r_135 c arg1 harg1 x0 = tab x0 7 11 := by
  unfold kernelRun0_A.sl.r_135; exact word_at arg1 harg1 x0 7 11 (by decide) _ _
theorem w136 : kernelRun0_A.sl.r_136 c arg1 harg1 x0 = tab x0 7 9 := by
  unfold kernelRun0_A.sl.r_136; exact word_at arg1 harg1 x0 7 9 (by decide) _ _
theorem w137 : kernelRun0_A.sl.r_137 c arg1 harg1 x0 = tab x0 7 12 := by
  unfold kernelRun0_A.sl.r_137; exact word_at arg1 harg1 x0 7 12 (by decide) _ _
theorem w138 : kernelRun0_A.sl.r_138 c arg1 harg1 x0 = tab x0 7 13 := by
  unfold kernelRun0_A.sl.r_138; exact word_at arg1 harg1 x0 7 13 (by decide) _ _
theorem w139 : kernelRun0_A.sl.r_139 c arg1 harg1 x0 = tab x0 7 0 := by
  unfold kernelRun0_A.sl.r_139; exact word_at arg1 harg1 x0 7 0 (by decide) _ _
theorem w140 : kernelRun0_A.sl.r_140 c arg1 harg1 x0 = tab x0 7 1 := by
  unfold kernelRun0_A.sl.r_140; exact word_at arg1 harg1 x0 7 1 (by decide) _ _
theorem w141 : kernelRun0_A.sl.r_141 c arg1 harg1 x0 = tab x0 7 2 := by
  unfold kernelRun0_A.sl.r_141; exact word_at arg1 harg1 x0 7 2 (by decide) _ _
theorem w146 : kernelRun0_A.sl.r_146 c arg1 harg1 x0 = tab x0 7 3 := by
  unfold kernelRun0_A.sl.r_146; exact word_at arg1 harg1 x0 7 3 (by decide) _ _
theorem w147 : kernelRun0_A.sl.r_147 c arg1 harg1 x0 = tab x0 8 4 := by
  unfold kernelRun0_A.sl.r_147; exact word_at arg1 harg1 x0 8 4 (by decide) _ _
theorem w148 : kernelRun0_A.sl.r_148 c arg1 harg1 x0 = tab x0 8 5 := by
  unfold kernelRun0_A.sl.r_148; exact word_at arg1 harg1 x0 8 5 (by decide) _ _
theorem w149 : kernelRun0_A.sl.r_149 c arg1 harg1 x0 = tab x0 8 6 := by
  unfold kernelRun0_A.sl.r_149; exact word_at arg1 harg1 x0 8 6 (by decide) _ _
theorem w150 : kernelRun0_A.sl.r_150 c arg1 harg1 x0 = tab x0 8 7 := by
  unfold kernelRun0_A.sl.r_150; exact word_at arg1 harg1 x0 8 7 (by decide) _ _
theorem w151 : kernelRun0_A.sl.r_151 c arg1 harg1 x0 = tab x0 8 8 := by
  unfold kernelRun0_A.sl.r_151; exact word_at arg1 harg1 x0 8 8 (by decide) _ _
theorem w152 : kernelRun0_A.sl.r_152 c arg1 harg1 x0 = tab x0 8 10 := by
  unfold kernelRun0_A.sl.r_152; exact word_at arg1 harg1 x0 8 10 (by decide) _ _
theorem w153 : kernelRun0_A.sl.r_153 c arg1 harg1 x0 = tab x0 8 11 := by
  unfold kernelRun0_A.sl.r_153; exact word_at arg1 harg1 x0 8 11 (by decide) _ _
theorem w154 : kernelRun0_A.sl.r_154 c arg1 harg1 x0 = tab x0 8 9 := by
  unfold kernelRun0_A.sl.r_154; exact word_at arg1 harg1 x0 8 9 (by decide) _ _
theorem w155 : kernelRun0_A.sl.r_155 c arg1 harg1 x0 = tab x0 8 12 := by
  unfold kernelRun0_A.sl.r_155; exact word_at arg1 harg1 x0 8 12 (by decide) _ _
theorem w161 : kernelRun0_A.sl.r_161 c arg1 harg1 x0 = tab x0 8 13 := by
  unfold kernelRun0_A.sl.r_161; exact word_at arg1 harg1 x0 8 13 (by decide) _ _
theorem w162 : kernelRun0_A.sl.r_162 c arg1 harg1 x0 = tab x0 8 0 := by
  unfold kernelRun0_A.sl.r_162; exact word_at arg1 harg1 x0 8 0 (by decide) _ _
theorem w163 : kernelRun0_A.sl.r_163 c arg1 harg1 x0 = tab x0 8 1 := by
  unfold kernelRun0_A.sl.r_163; exact word_at arg1 harg1 x0 8 1 (by decide) _ _
theorem w164 : kernelRun0_A.sl.r_164 c arg1 harg1 x0 = tab x0 8 2 := by
  unfold kernelRun0_A.sl.r_164; exact word_at arg1 harg1 x0 8 2 (by decide) _ _
theorem w165 : kernelRun0_A.sl.r_165 c arg1 harg1 x0 = tab x0 8 3 := by
  unfold kernelRun0_A.sl.r_165; exact word_at arg1 harg1 x0 8 3 (by decide) _ _

end Words

section Chain

variable (c : Dev nD) (arg1 : Memref sig .tc .smem S9x16 .f32) (harg1 : arg1.IsWhole) (arg2 : Memref sig .tc .vmem S1x64x128 .f32) (harg2 : arg2.IsWhole)
  (arg3 : Memref sig .tc .vmem S1x64x128 .f32) (harg3 : arg3.IsWhole)
  (x0 : Vec Ideal S9x16 .f32) (x1 : Vec Ideal S1x64x128 .f32) (x2 : Vec Ideal S1x64x128 .f32) (i : Fin 64) (j : Fin 128)

/-- Loading a block of one coordinate reads it. -/
theorem load_eq (arg : Memref sig .tc .vmem S1x64x128 .f32) (h : arg.IsWhole) (x : Vec Ideal S1x64x128 .f32) (hi) :
    View.readAt (Elt Ideal) arg.view (Rect.unit (s := S1x64x128) ![0, 0, 0] S1x64x128.size hi).toLoadRect (h.unread x) = x := by
  rw [View.readAt_eq_ld, h.read_unread, View.ld_unit_zero (by decide)]

theorem cst_at : (kernelRun0_A.sl.cst_191 : Ideal .f32) = (0 : EReal) := zero_bits

theorem c9 : kernelRun0_A.sl.r_9 c arg1 harg1 arg2 harg2 arg3 harg3 x0 x1 x2 (ix2 i j) = fA (tab x0) (x1 (ix3 0 i j)) (x2 (ix3 0 i j)) 0 := by
  unfold kernelRun0_A.sl.r_9
  rw [load_eq, load_eq]
  pointwise [k0_pay5, k0_pay2, k0_pay3]
  simp only [w0, w1, w5, w6, cst_at, zero_bits, fA_eq _ _ _ 0 1 rfl, fB_eq _ _ _ 0 1 rfl, fL_eq _ _ _ 0 1 rfl, fD_eq _ _ _ 0 1 rfl, flow0_y0, flow0_y1, flow0_s, zero_add] <;> rfl
theorem c10 : kernelRun0_A.sl.r_10 c arg1 harg1 arg2 harg2 arg3 harg3 x0 x1 x2 (ix2 i j) = (flowK (tab x0) (x1 (ix3 0 i j)) (x2 (ix3 0 i j)) 0).y1 * tab x0 1 6 := by
  unfold kernelRun0_A.sl.r_10
  rw [load_eq, load_eq]
  pointwise [k0_pay6, k0_pay2, k0_pay3]
  simp only [w2, w3, w7, cst_at, zero_bits, flow0_y0, flow0_y1, flow0_s, zero_add] <;> rfl
theorem c19 : kernelRun0_A.sl.r_19 c arg1 harg1 arg2 harg2 arg3 harg3 x0 x1 x2 (ix2 i j) = (flowK (tab x0) (x1 (ix3 0 i j)) (x2 (ix3 0 i j)) 1).s := by
  pointwise [kernelRun0_A.sl.r_19, k0_pay10, k0_pay9, k0_pay7, k0_pay8, k0_pay4]
  simp only [w11, w12, w13, c9, cst_at, zero_bits, fA_eq _ _ _ 0 1 rfl, fB_eq _ _ _ 0 1 rfl, fL_eq _ _ _ 0 1 rfl, fD_eq _ _ _ 0 1 rfl, flow0_y0, flow0_y1, flow0_s, zero_add, flow_y0 _ _ _ 0 1 rfl, flow_y1 _ _ _ 0 1 rfl, flow_s _ _ _ 0 1 rfl] <;> rfl
theorem c20 : kernelRun0_A.sl.r_20 c arg1 harg1 arg2 harg2 arg3 harg3 x0 x1 x2 (ix2 i j) = fA (tab x0) (x1 (ix3 0 i j)) (x2 (ix3 0 i j)) 0 := by
  pointwise [kernelRun0_A.sl.r_20, k0_pay11]
  simp only [c9, cst_at, zero_bits, fA_eq _ _ _ 0 1 rfl, fB_eq _ _ _ 0 1 rfl, fL_eq _ _ _ 0 1 rfl, fD_eq _ _ _ 0 1 rfl, flow0_y0, flow0_y1, flow0_s, zero_add] <;> rfl
theorem c21 : kernelRun0_A.sl.r_21 c arg1 harg1 arg2 harg2 arg3 harg3 x0 x1 x2 (ix2 i j) = fD (tab x0) (x1 (ix3 0 i j)) (x2 (ix3 0 i j)) 0 := by
  pointwise [kernelRun0_A.sl.r_21, k0_pay12, k0_pay7, k0_pay8, k0_pay9]
  simp only [w8, w11, w12, w13, w14, w15, w16, c9, c10, cst_at, zero_bits, fA_eq _ _ _ 0 1 rfl, fB_eq _ _ _ 0 1 rfl, fL_eq _ _ _ 0 1 rfl, fD_eq _ _ _ 0 1 rfl, flow0_y0, flow0_y1, flow0_s, zero_add] <;> rfl
theorem c22 : kernelRun0_A.sl.r_22 c arg1 harg1 arg2 harg2 arg3 harg3 x0 x1 x2 (ix2 i j) = (flowK (tab x0) (x1 (ix3 0 i j)) (x2 (ix3 0 i j)) 1).y0 := by
  pointwise [kernelRun0_A.sl.r_22, k0_pay13, k0_pay11, k0_pay12, k0_pay7, k0_pay8, k0_pay9]
  simp only [w8, w11, w12, w13, w14, w15, w16, w17, w18, c9, c10, cst_at, zero_bits, fA_eq _ _ _ 0 1 rfl, fB_eq _ _ _ 0 1 rfl, fL_eq _ _ _ 0 1 rfl, fD_eq _ _ _ 0 1 rfl, flow0_y0, flow0_y1, flow0_s, zero_add, flow_y0 _ _ _ 0 1 rfl, flow_y1 _ _ _ 0 1 rfl, flow_s _ _ _ 0 1 rfl] <;> rfl
theorem c34 : kernelRun0_A.sl.r_34 c arg1 harg1 arg2 harg2 arg3 harg3 x0 x1 x2 (ix2 i j) = fA (tab x0) (x1 (ix3 0 i j)) (x2 (ix3 0 i j)) 1 := by
  pointwise [kernelRun0_A.sl.r_34, k0_pay14]
  simp only [w25, w26, c22, cst_at, zero_bits, fA_eq _ _ _ 1 2 rfl, fB_eq _ _ _ 1 2 rfl, fL_eq _ _ _ 1 2 rfl, fD_eq _ _ _ 1 2 rfl] <;> rfl
theorem c35 : kernelRun0_A.sl.r_35 c arg1 harg1 arg2 harg2 arg3 harg3 x0 x1 x2 (ix2 i j) = fB (tab x0) (x1 (ix3 0 i j)) (x2 (ix3 0 i j)) 1 := by
  pointwise [kernelRun0_A.sl.r_35, k0_pay15]
  simp only [w23, w24, w27, w28, c20, c21, cst_at, zero_bits, fA_eq _ _ _ 0 1 rfl, fB_eq _ _ _ 0 1 rfl, fL_eq _ _ _ 0 1 rfl, fD_eq _ _ _ 0 1 rfl, fA_eq _ _ _ 1 2 rfl, fB_eq _ _ _ 1 2 rfl, fL_eq _ _ _ 1 2 rfl, fD_eq _ _ _ 1 2 rfl, flow_y0 _ _ _ 0 1 rfl, flow_y1 _ _ _ 0 1 rfl, flow_s _ _ _ 0 1 rfl] <;> rfl
theorem c36 : kernelRun0_A.sl.r_36 c arg1 harg1 arg2 harg2 arg3 harg3 x0 x1 x2 (ix2 i j) = max (fA (tab x0) (x1 (ix3 0 i j)) (x2 (ix3 0 i j)) 1) 0 := by
  pointwise [kernelRun0_A.sl.r_36, k0_pay16, k0_pay14]
  simp only [w25, w26, c22, cst_at, zero_bits, fA_eq _ _ _ 1 2 rfl, fB_eq _ _ _ 1 2 rfl, fL_eq _ _ _ 1 2 rfl, fD_eq _ _ _ 1 2 rfl] <;> rfl
theorem c37 : kernelRun0_A.sl.r_37 c arg1 harg1 arg2 harg2 arg3 harg3 x0 x1 x2 (ix2 i j) = min (fA (tab x0) (x1 (ix3 0 i j)) (x2 (ix3 0 i j)) 1) 0 := by
  pointwise [kernelRun0_A.sl.r_37, k0_pay17, k0_pay14]
  simp only [w25, w26, c22, cst_at, zero_bits, fA_eq _ _ _ 1 2 rfl, fB_eq _ _ _ 1 2 rfl, fL_eq _ _ _ 1 2 rfl, fD_eq _ _ _ 1 2 rfl] <;> rfl
theorem c38 : kernelRun0_A.sl.r_38 c arg1 harg1 arg2 harg2 arg3 harg3 x0 x1 x2 (ix2 i j) = fL (tab x0) (x1 (ix3 0 i j)) (x2 (ix3 0 i j)) 1 := by
  pointwise [kernelRun0_A.sl.r_38, k0_pay18, k0_pay16, k0_pay17, k0_pay14]
  simp only [w25, w26, w29, w30, w31, c22, cst_at, zero_bits, fA_eq _ _ _ 1 2 rfl, fB_eq _ _ _ 1 2 rfl, fL_eq _ _ _ 1 2 rfl, fD_eq _ _ _ 1 2 rfl] <;> rfl
theorem c48 : kernelRun0_A.sl.r_48 c arg1 harg1 arg2 harg2 arg3 harg3 x0 x1 x2 (ix2 i j) = (flowK (tab x0) (x1 (ix3 0 i j)) (x2 (ix3 0 i j)) 2).s := by
  pointwise [kernelRun0_A.sl.r_48, k0_pay19]
  simp only [c19, c38, cst_at, zero_bits, fA_eq _ _ _ 1 2 rfl, fB_eq _ _ _ 1 2 rfl, fL_eq _ _ _ 1 2 rfl, fD_eq _ _ _ 1 2 rfl, flow_y0 _ _ _ 1 2 rfl, flow_y1 _ _ _ 1 2 rfl, flow_s _ _ _ 1 2 rfl] <;> rfl
theorem c49 : kernelRun0_A.sl.r_49 c arg1 harg1 arg2 harg2 arg3 harg3 x0 x1 x2 (ix2 i j) = fA (tab x0) (x1 (ix3 0 i j)) (x2 (ix3 0 i j)) 2 := by
  pointwise [kernelRun0_A.sl.r_49, k0_pay22, k0_pay20, k0_pay21]
  simp only [w32, w33, w39, w40, w41, w44, w45, c34, c35, c36, c37, c38, cst_at, zero_bits, fA_eq _ _ _ 1 2 rfl, fB_eq _ _ _ 1 2 rfl, fL_eq _ _ _ 1 2 rfl, fD_eq _ _ _ 1 2 rfl, fA_eq _ _ _ 2 3 rfl, fB_eq _ _ _ 2 3 rfl, fL_eq _ _ _ 2 3 rfl, fD_eq _ _ _ 2 3 rfl, flow_y0 _ _ _ 1 2 rfl, flow_y1 _ _ _ 1 2 rfl, flow_s _ _ _ 1 2 rfl] <;> rfl
theorem c50 : kernelRun0_A.sl.r_50 c arg1 harg1 arg2 harg2 arg3 harg3 x0 x1 x2 (ix2 i j) = fB (tab x0) (x1 (ix3 0 i j)) (x2 (ix3 0 i j)) 2 := by
  pointwise [kernelRun0_A.sl.r_50, k0_pay23, k0_pay20, k0_pay21]
  simp only [w32, w33, w39, w42, w43, w46, w47, c34, c35, c36, c37, c38, cst_at, zero_bits, fA_eq _ _ _ 1 2 rfl, fB_eq _ _ _ 1 2 rfl, fL_eq _ _ _ 1 2 rfl, fD_eq _ _ _ 1 2 rfl, fA_eq _ _ _ 2 3 rfl, fB_eq _ _ _ 2 3 rfl, fL_eq _ _ _ 2 3 rfl, fD_eq _ _ _ 2 3 rfl, flow_y0 _ _ _ 1 2 rfl, flow_y1 _ _ _ 1 2 rfl, flow_s _ _ _ 1 2 rfl] <;> rfl
theorem c59 : kernelRun0_A.sl.r_59 c arg1 harg1 arg2 harg2 arg3 harg3 x0 x1 x2 (ix2 i j) = (flowK (tab x0) (x1 (ix3 0 i j)) (x2 (ix3 0 i j)) 3).s := by
  pointwise [kernelRun0_A.sl.r_59, k0_pay27, k0_pay26, k0_pay24, k0_pay25]
  simp only [w51, w52, w53, c48, c49, cst_at, zero_bits, fA_eq _ _ _ 2 3 rfl, fB_eq _ _ _ 2 3 rfl, fL_eq _ _ _ 2 3 rfl, fD_eq _ _ _ 2 3 rfl, flow_y0 _ _ _ 2 3 rfl, flow_y1 _ _ _ 2 3 rfl, flow_s _ _ _ 2 3 rfl] <;> rfl
theorem c60 : kernelRun0_A.sl.r_60 c arg1 harg1 arg2 harg2 arg3 harg3 x0 x1 x2 (ix2 i j) = fA (tab x0) (x1 (ix3 0 i j)) (x2 (ix3 0 i j)) 2 := by
  pointwise [kernelRun0_A.sl.r_60, k0_pay28]
  simp only [c49, cst_at, zero_bits, fA_eq _ _ _ 2 3 rfl, fB_eq _ _ _ 2 3 rfl, fL_eq _ _ _ 2 3 rfl, fD_eq _ _ _ 2 3 rfl] <;> rfl
theorem c61 : kernelRun0_A.sl.r_61 c arg1 harg1 arg2 harg2 arg3 harg3 x0 x1 x2 (ix2 i j) = fD (tab x0) (x1 (ix3 0 i j)) (x2 (ix3 0 i j)) 2 := by
  pointwise [kernelRun0_A.sl.r_61, k0_pay29, k0_pay24, k0_pay25, k0_pay26]
  simp only [w51, w52, w53, w54, w55, w56, c49, c50, cst_at, zero_bits, fA_eq _ _ _ 2 3 rfl, fB_eq _ _ _ 2 3 rfl, fL_eq _ _ _ 2 3 rfl, fD_eq _ _ _ 2 3 rfl] <;> rfl
theorem c62 : kernelRun0_A.sl.r_62 c arg1 harg1 arg2 harg2 arg3 harg3 x0 x1 x2 (ix2 i j) = (flowK (tab x0) (x1 (ix3 0 i j)) (x2 (ix3 0 i j)) 3).y0 := by
  pointwise [kernelRun0_A.sl.r_62, k0_pay30, k0_pay28, k0_pay29, k0_pay24, k0_pay25, k0_pay26]
  simp only [w51, w52, w53, w54, w55, w56, w57, w58, c49, c50, cst_at, zero_bits, fA_eq _ _ _ 2 3 rfl, fB_eq _ _ _ 2 3 rfl, fL_eq _ _ _ 2 3 rfl, fD_eq _ _ _ 2 3 rfl, flow_y0 _ _ _ 2 3 rfl, flow_y1 _ _ _ 2 3 rfl, flow_s _ _ _ 2 3 rfl] <;> rfl
theorem c74 : kernelRun0_A.sl.r_74 c arg1 harg1 arg2 harg2 arg3 harg3 x0 x1 x2 (ix2 i j) = fA (tab x0) (x1 (ix3 0 i j)) (x2 (ix3 0 i j)) 3 := by
  pointwise [kernelRun0_A.sl.r_74, k0_pay31]
  simp only [w65, w66, c62, cst_at, zero_bits, fA_eq _ _ _ 3 4 rfl, fB_eq _ _ _ 3 4 rfl, fL_eq _ _ _ 3 4 rfl, fD_eq _ _ _ 3 4 rfl] <;> rfl
theorem c75 : kernelRun0_A.sl.r_75 c arg1 harg1 arg2 harg2 arg3 harg3 x0 x1 x2 (ix2 i j) = fB (tab x0) (x1 (ix3 0 i j)) (x2 (ix3 0 i j)) 3 := by
  pointwise [kernelRun0_A.sl.r_75, k0_pay32]
  simp only [w63, w64, w67, w68, c60, c61, cst_at, zero_bits, fA_eq _ _ _ 2 3 rfl, fB_eq _ _ _ 2 3 rfl, fL_eq _ _ _ 2 3 rfl, fD_eq _ _ _ 2 3 rfl, fA_eq _ _ _ 3 4 rfl, fB_eq _ _ _ 3 4 rfl, fL_eq _ _ _ 3 4 rfl, fD_eq _ _ _ 3 4 rfl, flow_y0 _ _ _ 2 3 rfl, flow_y1 _ _ _ 2 3 rfl, flow_s _ _ _ 2 3 rfl] <;> rfl
theorem c76 : kernelRun0_A.sl.r_76 c arg1 harg1 arg2 harg2 arg3 harg3 x0 x1 x2 (ix2 i j) = min (fA (tab x0) (x1 (ix3 0 i j)) (x2 (ix3 0 i j)) 3) 0 := by
  pointwise [kernelRun0_A.sl.r_76, k0_pay34, k0_pay31]
  simp only [w65, w66, c62, cst_at, zero_bits, fA_eq _ _ _ 3 4 rfl, fB_eq _ _ _ 3 4 rfl, fL_eq _ _ _ 3 4 rfl, fD_eq _ _ _ 3 4 rfl] <;> rfl
theorem c77 : kernelRun0_A.sl.r_77 c arg1 harg1 arg2 harg2 arg3 harg3 x0 x1 x2 (ix2 i j) = fL (tab x0) (x1 (ix3 0 i j)) (x2 (ix3 0 i j)) 3 := by
  pointwise [kernelRun0_A.sl.r_77, k0_pay35, k0_pay33, k0_pay34, k0_pay31]
  simp only [w65, w66, w69, w70, w71, c62, cst_at, zero_bits, fA_eq _ _ _ 3 4 rfl, fB_eq _ _ _ 3 4 rfl, fL_eq _ _ _ 3 4 rfl, fD_eq _ _ _ 3 4 rfl] <;> rfl
theorem c78 : kernelRun0_A.sl.r_78 c arg1 harg1 arg2 harg2 arg3 harg3 x0 x1 x2 (ix2 i j) = tab x0 4 12 * max (fA (tab x0) (x1 (ix3 0 i j)) (x2 (ix3 0 i j)) 3) 0 := by
  pointwise [kernelRun0_A.sl.r_78, k0_pay36, k0_pay33, k0_pay31]
  simp only [w65, w66, w73, c62, cst_at, zero_bits, fA_eq _ _ _ 3 4 rfl, fB_eq _ _ _ 3 4 rfl, fL_eq _ _ _ 3 4 rfl, fD_eq _ _ _ 3 4 rfl] <;> rfl
theorem c88 : kernelRun0_A.sl.r_88 c arg1 harg1 arg2 harg2 arg3 harg3 x0 x1 x2 (ix2 i j) = (flowK (tab x0) (x1 (ix3 0 i j)) (x2 (ix3 0 i j)) 4).s := by
  pointwise [kernelRun0_A.sl.r_88, k0_pay37]
  simp only [c59, c77, cst_at, zero_bits, fA_eq _ _ _ 3 4 rfl, fB_eq _ _ _ 3 4 rfl, fL_eq _ _ _ 3 4 rfl, fD_eq _ _ _ 3 4 rfl, flow_y0 _ _ _ 3 4 rfl, flow_y1 _ _ _ 3 4 rfl, flow_s _ _ _ 3 4 rfl] <;> rfl
theorem c89 : kernelRun0_A.sl.r_89 c arg1 harg1 arg2 harg2 arg3 harg3 x0 x1 x2 (ix2 i j) = fA (tab x0) (x1 (ix3 0 i j)) (x2 (ix3 0 i j)) 4 := by
  pointwise [kernelRun0_A.sl.r_89, k0_pay40, k0_pay38, k0_pay39]
  simp only [w72, w79, w80, w81, w84, w85, c74, c75, c76, c77, c78, cst_at, zero_bits, fA_eq _ _ _ 3 4 rfl, fB_eq _ _ _ 3 4 rfl, fL_eq _ _ _ 3 4 rfl, fD_eq _ _ _ 3 4 rfl, fA_eq _ _ _ 4 5 rfl, fB_eq _ _ _ 4 5 rfl, fL_eq _ _ _ 4 5 rfl, fD_eq _ _ _ 4 5 rfl, flow_y0 _ _ _ 3 4 rfl, flow_y1 _ _ _ 3 4 rfl, flow_s _ _ _ 3 4 rfl] <;> rfl
theorem c90 : kernelRun0_A.sl.r_90 c arg1 harg1 arg2 harg2 arg3 harg3 x0 x1 x2 (ix2 i j) = fB (tab x0) (x1 (ix3 0 i j)) (x2 (ix3 0 i j)) 4 := by
  pointwise [kernelRun0_A.sl.r_90, k0_pay41, k0_pay38, k0_pay39]
  simp only [w72, w79, w82, w83, w86, w87, c74, c75, c76, c77, c78, cst_at, zero_bits, fA_eq _ _ _ 3 4 rfl, fB_eq _ _ _ 3 4 rfl, fL_eq _ _ _ 3 4 rfl, fD_eq _ _ _ 3 4 rfl, fA_eq _ _ _ 4 5 rfl, fB_eq _ _ _ 4 5 rfl, fL_eq _ _ _ 4 5 rfl, fD_eq _ _ _ 4 5 rfl, flow_y0 _ _ _ 3 4 rfl, flow_y1 _ _ _ 3 4 rfl, flow_s _ _ _ 3 4 rfl] <;> rfl
theorem c100 : kernelRun0_A.sl.r_100 c arg1 harg1 arg2 harg2 arg3 harg3 x0 x1 x2 (ix2 i j) = (flowK (tab x0) (x1 (ix3 0 i j)) (x2 (ix3 0 i j)) 5).s := by
  pointwise [kernelRun0_A.sl.r_100, k0_pay46, k0_pay45, k0_pay43, k0_pay44, k0_pay42]
  simp only [w91, w92, w93, c88, c89, cst_at, zero_bits, fA_eq _ _ _ 4 5 rfl, fB_eq _ _ _ 4 5 rfl, fL_eq _ _ _ 4 5 rfl, fD_eq _ _ _ 4 5 rfl, flow_y0 _ _ _ 4 5 rfl, flow_y1 _ _ _ 4 5 rfl, flow_s _ _ _ 4 5 rfl] <;> rfl
theorem c101 : kernelRun0_A.sl.r_101 c arg1 harg1 arg2 harg2 arg3 harg3 x0 x1 x2 (ix2 i j) = fA (tab x0) (x1 (ix3 0 i j)) (x2 (ix3 0 i j)) 4 := by
  pointwise [kernelRun0_A.sl.r_101, k0_pay47]
  simp only [c89, cst_at, zero_bits, fA_eq _ _ _ 4 5 rfl, fB_eq _ _ _ 4 5 rfl, fL_eq _ _ _ 4 5 rfl, fD_eq _ _ _ 4 5 rfl] <;> rfl
theorem c102 : kernelRun0_A.sl.r_102 c arg1 harg1 arg2 harg2 arg3 harg3 x0 x1 x2 (ix2 i j) = fD (tab x0) (x1 (ix3 0 i j)) (x2 (ix3 0 i j)) 4 := by
  pointwise [kernelRun0_A.sl.r_102, k0_pay48, k0_pay43, k0_pay44, k0_pay45, k0_pay42]
  simp only [w91, w92, w93, w94, w95, w96, c89, c90, cst_at, zero_bits, fA_eq _ _ _ 4 5 rfl, fB_eq _ _ _ 4 5 rfl, fL_eq _ _ _ 4 5 rfl, fD_eq _ _ _ 4 5 rfl] <;> rfl
theorem c103 : kernelRun0_A.sl.r_103 c arg1 harg1 arg2 harg2 arg3 harg3 x0 x1 x2 (ix2 i j) = (flowK (tab x0) (x1 (ix3 0 i j)) (x2 (ix3 0 i j)) 5).y0 := by
  pointwise [kernelRun0_A.sl.r_103, k0_pay49, k0_pay47, k0_pay48, k0_pay43, k0_pay44, k0_pay45, k0_pay42]
  simp only [w91, w92, w93, w94, w95, w96, w97, w98, c89, c90, cst_at, zero_bits, fA_eq _ _ _ 4 5 rfl, fB_eq _ _ _ 4 5 rfl, fL_eq _ _ _ 4 5 rfl, fD_eq _ _ _ 4 5 rfl, flow_y0 _ _ _ 4 5 rfl, flow_y1 _ _ _ 4 5 rfl, flow_s _ _ _ 4 5 rfl] <;> rfl
theorem c104 : kernelRun0_A.sl.r_104 c arg1 harg1 x0 (ix2 i j) = tab x0 5 2 := by
  pointwise [kernelRun0_A.sl.r_104, k0_pay50]
  simp only [w99, cst_at, zero_bits] <;> rfl
theorem c115 : kernelRun0_A.sl.r_115 c arg1 harg1 arg2 harg2 arg3 harg3 x0 x1 x2 (ix2 i j) = fA (tab x0) (x1 (ix3 0 i j)) (x2 (ix3 0 i j)) 5 := by
  pointwise [kernelRun0_A.sl.r_115, k0_pay51]
  simp only [w106, w107, c103, cst_at, zero_bits, fA_eq _ _ _ 5 6 rfl, fB_eq _ _ _ 5 6 rfl, fL_eq _ _ _ 5 6 rfl, fD_eq _ _ _ 5 6 rfl] <;> rfl
theorem c116 : kernelRun0_A.sl.r_116 c arg1 harg1 arg2 harg2 arg3 harg3 x0 x1 x2 (ix2 i j) = fB (tab x0) (x1 (ix3 0 i j)) (x2 (ix3 0 i j)) 5 := by
  pointwise [kernelRun0_A.sl.r_116, k0_pay52]
  simp only [w105, w108, w109, c101, c102, c104, cst_at, zero_bits, fA_eq _ _ _ 4 5 rfl, fB_eq _ _ _ 4 5 rfl, fL_eq _ _ _ 4 5 rfl, fD_eq _ _ _ 4 5 rfl, fA_eq _ _ _ 5 6 rfl, fB_eq _ _ _ 5 6 rfl, fL_eq _ _ _ 5 6 rfl, fD_eq _ _ _ 5 6 rfl, flow_y0 _ _ _ 4 5 rfl, flow_y1 _ _ _ 4 5 rfl, flow_s _ _ _ 4 5 rfl] <;> rfl
theorem c117 : kernelRun0_A.sl.r_117 c arg1 harg1 arg2 harg2 arg3 harg3 x0 x1 x2 (ix2 i j) = min (fA (tab x0) (x1 (ix3 0 i j)) (x2 (ix3 0 i j)) 5) 0 := by
  pointwise [kernelRun0_A.sl.r_117, k0_pay54, k0_pay51]
  simp only [w106, w107, c103, cst_at, zero_bits, fA_eq _ _ _ 5 6 rfl, fB_eq _ _ _ 5 6 rfl, fL_eq _ _ _ 5 6 rfl, fD_eq _ _ _ 5 6 rfl] <;> rfl
theorem c118 : kernelRun0_A.sl.r_118 c arg1 harg1 arg2 harg2 arg3 harg3 x0 x1 x2 (ix2 i j) = fL (tab x0) (x1 (ix3 0 i j)) (x2 (ix3 0 i j)) 5 := by
  pointwise [kernelRun0_A.sl.r_118, k0_pay55, k0_pay53, k0_pay54, k0_pay51]
  simp only [w106, w107, w110, w111, w112, c103, cst_at, zero_bits, fA_eq _ _ _ 5 6 rfl, fB_eq _ _ _ 5 6 rfl, fL_eq _ _ _ 5 6 rfl, fD_eq _ _ _ 5 6 rfl] <;> rfl
theorem c119 : kernelRun0_A.sl.r_119 c arg1 harg1 arg2 harg2 arg3 harg3 x0 x1 x2 (ix2 i j) = tab x0 6 9 + tab x0 6 12 * max (fA (tab x0) (x1 (ix3 0 i j)) (x2 (ix3 0 i j)) 5) 0 := by
  pointwise [kernelRun0_A.sl.r_119, k0_pay56, k0_pay53, k0_pay51]
  simp only [w106, w107, w113, w114, c103, cst_at, zero_bits, fA_eq _ _ _ 5 6 rfl, fB_eq _ _ _ 5 6 rfl, fL_eq _ _ _ 5 6 rfl, fD_eq _ _ _ 5 6 rfl] <;> rfl
theorem c129 : kernelRun0_A.sl.r_129 c arg1 harg1 arg2 harg2 arg3 harg3 x0 x1 x2 (ix2 i j) = (flowK (tab x0) (x1 (ix3 0 i j)) (x2 (ix3 0 i j)) 6).s := by
  pointwise [kernelRun0_A.sl.r_129, k0_pay57]
  simp only [c100, c118, cst_at, zero_bits, fA_eq _ _ _ 5 6 rfl, fB_eq _ _ _ 5 6 rfl, fL_eq _ _ _ 5 6 rfl, fD_eq _ _ _ 5 6 rfl, flow_y0 _ _ _ 5 6 rfl, flow_y1 _ _ _ 5 6 rfl, flow_s _ _ _ 5 6 rfl] <;> rfl
theorem c130 : kernelRun0_A.sl.r_130 c arg1 harg1 arg2 harg2 arg3 harg3 x0 x1 x2 (ix2 i j) = fA (tab x0) (x1 (ix3 0 i j)) (x2 (ix3 0 i j)) 6 := by
  pointwise [kernelRun0_A.sl.r_130, k0_pay60, k0_pay58, k0_pay59]
  simp only [w120, w121, w122, w125, w126, c115, c116, c117, c118, c119, cst_at, zero_bits, fA_eq _ _ _ 5 6 rfl, fB_eq _ _ _ 5 6 rfl, fL_eq _ _ _ 5 6 rfl, fD_eq _ _ _ 5 6 rfl, fA_eq _ _ _ 6 7 rfl, fB_eq _ _ _ 6 7 rfl, fL_eq _ _ _ 6 7 rfl, fD_eq _ _ _ 6 7 rfl, flow_y0 _ _ _ 5 6 rfl, flow_y1 _ _ _ 5 6 rfl, flow_s _ _ _ 5 6 rfl] <;> rfl
theorem c131 : kernelRun0_A.sl.r_131 c arg1 harg1 arg2 harg2 arg3 harg3 x0 x1 x2 (ix2 i j) = fB (tab x0) (x1 (ix3 0 i j)) (x2 (ix3 0 i j)) 6 := by
  pointwise [kernelRun0_A.sl.r_131, k0_pay61, k0_pay58, k0_pay59]
  simp only [w120, w123, w124, w127, w128, c115, c116, c117, c118, c119, cst_at, zero_bits, fA_eq _ _ _ 5 6 rfl, fB_eq _ _ _ 5 6 rfl, fL_eq _ _ _ 5 6 rfl, fD_eq _ _ _ 5 6 rfl, fA_eq _ _ _ 6 7 rfl, fB_eq _ _ _ 6 7 rfl, fL_eq _ _ _ 6 7 rfl, fD_eq _ _ _ 6 7 rfl, flow_y0 _ _ _ 5 6 rfl, flow_y1 _ _ _ 5 6 rfl, flow_s _ _ _ 5 6 rfl] <;> rfl
theorem c132 : kernelRun0_A.sl.r_132 c arg1 harg1 arg2 harg2 arg3 harg3 x0 x1 x2 (ix2 i j) = max (fA (tab x0) (x1 (ix3 0 i j)) (x2 (ix3 0 i j)) 6) 0 := by
  pointwise [kernelRun0_A.sl.r_132, k0_pay62, k0_pay60, k0_pay58, k0_pay59]
  simp only [w120, w121, w122, w125, w126, c115, c116, c117, c118, c119, cst_at, zero_bits, fA_eq _ _ _ 5 6 rfl, fB_eq _ _ _ 5 6 rfl, fL_eq _ _ _ 5 6 rfl, fD_eq _ _ _ 5 6 rfl, fA_eq _ _ _ 6 7 rfl, fB_eq _ _ _ 6 7 rfl, fL_eq _ _ _ 6 7 rfl, fD_eq _ _ _ 6 7 rfl, flow_y0 _ _ _ 5 6 rfl, flow_y1 _ _ _ 5 6 rfl, flow_s _ _ _ 5 6 rfl] <;> rfl
theorem c142 : kernelRun0_A.sl.r_142 c arg1 harg1 arg2 harg2 arg3 harg3 x0 x1 x2 (ix2 i j) = (flowK (tab x0) (x1 (ix3 0 i j)) (x2 (ix3 0 i j)) 7).s := by
  pointwise [kernelRun0_A.sl.r_142, k0_pay65, k0_pay64, k0_pay63]
  simp only [w133, w134, w135, c129, c130, c132, cst_at, zero_bits, fA_eq _ _ _ 6 7 rfl, fB_eq _ _ _ 6 7 rfl, fL_eq _ _ _ 6 7 rfl, fD_eq _ _ _ 6 7 rfl, flow_y0 _ _ _ 6 7 rfl, flow_y1 _ _ _ 6 7 rfl, flow_s _ _ _ 6 7 rfl] <;> rfl
theorem c143 : kernelRun0_A.sl.r_143 c arg1 harg1 arg2 harg2 arg3 harg3 x0 x1 x2 (ix2 i j) = fD (tab x0) (x1 (ix3 0 i j)) (x2 (ix3 0 i j)) 6 := by
  pointwise [kernelRun0_A.sl.r_143, k0_pay67, k0_pay63, k0_pay64]
  simp only [w133, w134, w135, w136, w137, w138, c130, c131, c132, cst_at, zero_bits, fA_eq _ _ _ 6 7 rfl, fB_eq _ _ _ 6 7 rfl, fL_eq _ _ _ 6 7 rfl, fD_eq _ _ _ 6 7 rfl] <;> rfl
theorem c144 : kernelRun0_A.sl.r_144 c arg1 harg1 arg2 harg2 arg3 harg3 x0 x1 x2 (ix2 i j) = (flowK (tab x0) (x1 (ix3 0 i j)) (x2 (ix3 0 i j)) 7).y0 := by
  pointwise [kernelRun0_A.sl.r_144, k0_pay68, k0_pay66, k0_pay67, k0_pay63, k0_pay64]
  simp only [w133, w134, w135, w136, w137, w138, w139, w140, c130, c131, c132, cst_at, zero_bits, fA_eq _ _ _ 6 7 rfl, fB_eq _ _ _ 6 7 rfl, fL_eq _ _ _ 6 7 rfl, fD_eq _ _ _ 6 7 rfl, flow_y0 _ _ _ 6 7 rfl, flow_y1 _ _ _ 6 7 rfl, flow_s _ _ _ 6 7 rfl] <;> rfl
theorem c145 : kernelRun0_A.sl.r_145 c arg1 harg1 arg2 harg2 arg3 harg3 x0 x1 x2 (ix2 i j) = fA (tab x0) (x1 (ix3 0 i j)) (x2 (ix3 0 i j)) 6 * tab x0 7 2 := by
  pointwise [kernelRun0_A.sl.r_145, k0_pay69, k0_pay66]
  simp only [w141, c130, cst_at, zero_bits, fA_eq _ _ _ 6 7 rfl, fB_eq _ _ _ 6 7 rfl, fL_eq _ _ _ 6 7 rfl, fD_eq _ _ _ 6 7 rfl] <;> rfl
theorem c156 : kernelRun0_A.sl.r_156 c arg1 harg1 arg2 harg2 arg3 harg3 x0 x1 x2 (ix2 i j) = fA (tab x0) (x1 (ix3 0 i j)) (x2 (ix3 0 i j)) 7 := by
  pointwise [kernelRun0_A.sl.r_156, k0_pay70]
  simp only [w147, w148, c144, cst_at, zero_bits, fA_eq _ _ _ 7 8 rfl, fB_eq _ _ _ 7 8 rfl, fL_eq _ _ _ 7 8 rfl, fD_eq _ _ _ 7 8 rfl] <;> rfl
theorem c157 : kernelRun0_A.sl.r_157 c arg1 harg1 arg2 harg2 arg3 harg3 x0 x1 x2 (ix2 i j) = fB (tab x0) (x1 (ix3 0 i j)) (x2 (ix3 0 i j)) 7 := by
  pointwise [kernelRun0_A.sl.r_157, k0_pay71]
  simp only [w146, w149, w150, c143, c145, cst_at, zero_bits, fA_eq _ _ _ 6 7 rfl, fB_eq _ _ _ 6 7 rfl, fL_eq _ _ _ 6 7 rfl, fD_eq _ _ _ 6 7 rfl, fA_eq _ _ _ 7 8 rfl, fB_eq _ _ _ 7 8 rfl, fL_eq _ _ _ 7 8 rfl, fD_eq _ _ _ 7 8 rfl, flow_y0 _ _ _ 6 7 rfl, flow_y1 _ _ _ 6 7 rfl, flow_s _ _ _ 6 7 rfl] <;> rfl
theorem c158 : kernelRun0_A.sl.r_158 c arg1 harg1 arg2 harg2 arg3 harg3 x0 x1 x2 (ix2 i j) = min (fA (tab x0) (x1 (ix3 0 i j)) (x2 (ix3 0 i j)) 7) 0 := by
  pointwise [kernelRun0_A.sl.r_158, k0_pay73, k0_pay70]
  simp only [w147, w148, c144, cst_at, zero_bits, fA_eq _ _ _ 7 8 rfl, fB_eq _ _ _ 7 8 rfl, fL_eq _ _ _ 7 8 rfl, fD_eq _ _ _ 7 8 rfl] <;> rfl
theorem c159 : kernelRun0_A.sl.r_159 c arg1 harg1 arg2 harg2 arg3 harg3 x0 x1 x2 (ix2 i j) = fL (tab x0) (x1 (ix3 0 i j)) (x2 (ix3 0 i j)) 7 := by
  pointwise [kernelRun0_A.sl.r_159, k0_pay74, k0_pay72, k0_pay73, k0_pay70]
  simp only [w147, w148, w151, w152, w153, c144, cst_at, zero_bits, fA_eq _ _ _ 7 8 rfl, fB_eq _ _ _ 7 8 rfl, fL_eq _ _ _ 7 8 rfl, fD_eq _ _ _ 7 8 rfl] <;> rfl
theorem c160 : kernelRun0_A.sl.r_160 c arg1 harg1 arg2 harg2 arg3 harg3 x0 x1 x2 (ix2 i j) = tab x0 8 9 + tab x0 8 12 * max (fA (tab x0) (x1 (ix3 0 i j)) (x2 (ix3 0 i j)) 7) 0 := by
  pointwise [kernelRun0_A.sl.r_160, k0_pay75, k0_pay72, k0_pay70]
  simp only [w147, w148, w154, w155, c144, cst_at, zero_bits, fA_eq _ _ _ 7 8 rfl, fB_eq _ _ _ 7 8 rfl, fL_eq _ _ _ 7 8 rfl, fD_eq _ _ _ 7 8 rfl] <;> rfl

theorem pay80 (q : Fin 1) : k0_pay80 (kernelRun0_A.sl.r_156 c arg1 harg1 arg2 harg2 arg3 harg3 x0 x1 x2) (kernelRun0_A.sl.r_157 c arg1 harg1 arg2 harg2 arg3 harg3 x0 x1 x2) (kernelRun0_A.sl.r_158 c arg1 harg1 arg2 harg2 arg3 harg3 x0 x1 x2) (kernelRun0_A.sl.r_159 c arg1 harg1 arg2 harg2 arg3 harg3 x0 x1 x2) (kernelRun0_A.sl.r_160 c arg1 harg1 arg2 harg2 arg3 harg3 x0 x1 x2) (kernelRun0_A.sl.r_161 c arg1 harg1 x0) (kernelRun0_A.sl.r_162 c arg1 harg1 x0) (kernelRun0_A.sl.r_163 c arg1 harg1 x0) (ix3 q i j) = (flowK (tab x0) (x1 (ix3 0 i j)) (x2 (ix3 0 i j)) 8).y0 := by
  pointwise [k0_pay80, k0_pay78, k0_pay76, k0_pay77]
  simp only [c156, c157, c158, c159, c160, w161, w162, w163, w164, w165, cst_at, zero_bits, fA_eq _ _ _ 7 8 rfl, fB_eq _ _ _ 7 8 rfl, fL_eq _ _ _ 7 8 rfl, fD_eq _ _ _ 7 8 rfl, flow_y0 _ _ _ 7 8 rfl, flow_y1 _ _ _ 7 8 rfl, flow_s _ _ _ 7 8 rfl] <;> rfl

theorem pay81 (q : Fin 1) : k0_pay81 (kernelRun0_A.sl.r_156 c arg1 harg1 arg2 harg2 arg3 harg3 x0 x1 x2) (kernelRun0_A.sl.r_157 c arg1 harg1 arg2 harg2 arg3 harg3 x0 x1 x2) (kernelRun0_A.sl.r_158 c arg1 harg1 arg2 harg2 arg3 harg3 x0 x1 x2) (kernelRun0_A.sl.r_159 c arg1 harg1 arg2 harg2 arg3 harg3 x0 x1 x2) (kernelRun0_A.sl.r_160 c arg1 harg1 arg2 harg2 arg3 harg3 x0 x1 x2) (kernelRun0_A.sl.r_161 c arg1 harg1 x0) (kernelRun0_A.sl.r_164 c arg1 harg1 x0) (kernelRun0_A.sl.r_165 c arg1 harg1 x0) (ix3 q i j) = (flowK (tab x0) (x1 (ix3 0 i j)) (x2 (ix3 0 i j)) 8).y1 := by
  pointwise [k0_pay81, k0_pay79, k0_pay76, k0_pay77]
  simp only [c156, c157, c158, c159, c160, w161, w162, w163, w164, w165, cst_at, zero_bits, fA_eq _ _ _ 7 8 rfl, fB_eq _ _ _ 7 8 rfl, fL_eq _ _ _ 7 8 rfl, fD_eq _ _ _ 7 8 rfl, flow_y0 _ _ _ 7 8 rfl, flow_y1 _ _ _ 7 8 rfl, flow_s _ _ _ 7 8 rfl] <;> rfl

theorem c166 : kernelRun0_A.sl.r_166 c arg1 harg1 arg2 harg2 arg3 harg3 x0 x1 x2 (ix2 i j) = logpK (tab x0) (flowK (tab x0) (x1 (ix3 0 i j)) (x2 (ix3 0 i j)) 8) := by
  pointwise [kernelRun0_A.sl.r_166, k0_pay82, k0_pay78, k0_pay79, k0_pay76, k0_pay77]
  simp only [logpK, w4, c142, c156, c157, c158, c159, c160, w161, w162, w163, w164, w165, cst_at, zero_bits, fA_eq _ _ _ 7 8 rfl, fB_eq _ _ _ 7 8 rfl, fL_eq _ _ _ 7 8 rfl, fD_eq _ _ _ 7 8 rfl, flow_y0 _ _ _ 7 8 rfl, flow_y1 _ _ _ 7 8 rfl, flow_s _ _ _ 7 8 rfl] <;> rfl

theorem pay1 (q : Fin 1) : k0_pay1 (kernelRun0_A.sl.r_166 c arg1 harg1 arg2 harg2 arg3 harg3 x0 x1 x2) (ix3 q i j) = logpK (tab x0) (flowK (tab x0) (x1 (ix3 0 i j)) (x2 (ix3 0 i j)) 8) := by
  pointwise [k0_pay1]
  exact c166 c arg1 harg1 arg2 harg2 arg3 harg3 x0 x1 x2 i j

variable (arg4 : Memref sig .tc .vmem S1x64x128 .f32) (harg4 : arg4.IsWhole) (arg5 : Memref sig .tc .vmem S1x64x128 .f32) (harg5 : arg5.IsWhole)
  (arg6 : Memref sig .tc .vmem S1x64x128 .f32) (harg6 : arg6.IsWhole) (t : grid0.Coords) (q : Fin 1)

/-- What the body stores to output 3, at a sample. -/
theorem out3_at : out0_A_3 c t arg1 harg1 arg2 harg2 arg3 harg3 arg4 harg4 arg5 harg5 arg6 harg6 x0 x1 x2 (ix3 q i j) = (flowK (tab x0) (x1 (ix3 0 i j)) (x2 (ix3 0 i j)) 8).y0 := by
  unfold out0_A_3; rw [View.read_writes_junk_eq_canon]; unfold kernelRun0_A; dsimp only
  rw [View.canon_unit_zero (by decide)]
  exact pay80 c arg1 harg1 arg2 harg2 arg3 harg3 x0 x1 x2 i j q

/-- What the body stores to output 4, at a sample. -/
theorem out4_at : out0_A_4 c t arg1 harg1 arg2 harg2 arg3 harg3 arg4 harg4 arg5 harg5 arg6 harg6 x0 x1 x2 (ix3 q i j) = (flowK (tab x0) (x1 (ix3 0 i j)) (x2 (ix3 0 i j)) 8).y1 := by
  unfold out0_A_4; rw [View.read_writes_junk_eq_canon]; unfold kernelRun0_A; dsimp only
  rw [View.canon_unit_zero (by decide)]
  exact pay81 c arg1 harg1 arg2 harg2 arg3 harg3 x0 x1 x2 i j q

/-- What the body stores to output 5, at a sample. -/
theorem out5_at : out0_A_5 c t arg1 harg1 arg2 harg2 arg3 harg3 arg4 harg4 arg5 harg5 arg6 harg6 x0 x1 x2 (ix3 q i j) = logpK (tab x0) (flowK (tab x0) (x1 (ix3 0 i j)) (x2 (ix3 0 i j)) 8) := by
  unfold out0_A_5; rw [View.read_writes_junk_eq_canon]; unfold kernelRun0_A; dsimp only
  rw [View.canon_unit_zero (by decide)]
  exact pay1 c arg1 harg1 arg2 harg2 arg3 harg3 x0 x1 x2 i j q

end Chain

end Cert.Proof.Block

end
-- ==== Proof.FlowRef.lean ====
/- The flow on one sample as the reference states it, in extended reals: one step from a step's parameters, the state after
   each step, and the log-density. -/
module

public import proofs.«01_k».proof.Proof.Flow

@[expose] public section

noncomputable section

namespace Cert.Proof.Flow

open Idealize.ShloMosaic

/-- One step's parameters: log-scales `e`, shifts `b`, the two layers of its network, and the mixing `w`. -/
structure Row where
  e : Fin 2 → EReal
  b : Fin 2 → EReal
  w1 : Fin 512 → EReal
  b1 : Fin 512 → EReal
  w2 : Fin 2 → Fin 512 → EReal
  b2 : Fin 2 → EReal
  w : Fin 2 → Fin 2 → EReal

/-- The scaled and shifted coordinates. -/
def rA (r : Row) (y0 : EReal) : EReal := y0 * Ideal.exp (r.e 0) + r.b 0
def rB (r : Row) (y1 : EReal) : EReal := y1 * Ideal.exp (r.e 1) + r.b 1
/-- The network's output `o` at `a`. -/
def rH (r : Row) (a : EReal) (o : Fin 2) : EReal := (∑ h : Fin 512, max (a * r.w1 h + r.b1 h) 0 * r.w2 o h) + r.b2 o
/-- The coupled second coordinate. -/
def rD (r : Row) (a b : EReal) : EReal := b * Ideal.exp (Ideal.tanh (rH r a 0)) + rH r a 1
/-- The logarithm of a mixing's absolute determinant. -/
def ldet (w : Fin 2 → Fin 2 → EReal) : EReal :=
  Ideal.log (max (w 0 0 * w 1 1 - w 0 1 * w 1 0) (-(w 0 0 * w 1 1 - w 0 1 * w 1 0)))

/-- One step of the reference. -/
def stepR (r : Row) (p : St) : St where
  y0 := rA r p.y0 * r.w 0 0 + rD r (rA r p.y0) (rB r p.y1) * r.w 0 1
  y1 := rA r p.y0 * r.w 1 0 + rD r (rA r p.y0) (rB r p.y1) * r.w 1 1
  s := p.s + (r.e 0 + r.e 1) + Ideal.tanh (rH r (rA r p.y0) 0) + ldet r.w

/-- The state after `k` steps of the reference, from the mixing `w` of a sample's coordinates `a`, `b`. -/
def flowR (w : Fin 2 → Fin 2 → EReal) (R : ℕ → Row) (a b : EReal) : ℕ → St
  | 0 => ⟨a * w 0 0 + b * w 0 1, a * w 1 0 + b * w 1 1, ldet w⟩
  | k + 1 => stepR (R k) (flowR w R a b k)

/-- The reference's log-density from the final state. -/
def logpR (p : St) : EReal :=
  Ideal.ofBits .f32 0xBFEB3F8E#32 - Ideal.div (p.y0 * p.y0 + p.y1 * p.y1) (Ideal.ofBits .f32 0x40000000#32) + p.s

end Cert.Proof.Flow

end
-- ==== Proof.Bridge.lean ====
/- The two chains agree on finite values: with no hidden bias a step's network is linear on each side of zero, so the table's
   two sums per output stand for it; and the log-density is the same sum, grouped differently. -/
module

public import proofs.«01_k».proof.Proof.FlowRef
public import Mathlib.Tactic.Abel
public import Mathlib.Tactic.Ring
public import Mathlib.Tactic.NormNum
public import Mathlib.Algebra.BigOperators.Ring.Finset

@[expose] public section

noncomputable section

namespace Cert.Proof.Flow

open Idealize.ShloMosaic

/-- A finite value. -/
def Fin' (x : EReal) : Prop := ∃ r : ℝ, x = (r : EReal)

namespace Fin'

theorem coe (r : ℝ) : Fin' (r : EReal) := ⟨r, rfl⟩
theorem add {x y : EReal} : Fin' x → Fin' y → Fin' (x + y) := by
  rintro ⟨a, rfl⟩ ⟨b, rfl⟩; exact ⟨a + b, (EReal.coe_add a b).symm⟩
theorem mul {x y : EReal} : Fin' x → Fin' y → Fin' (x * y) := by
  rintro ⟨a, rfl⟩ ⟨b, rfl⟩; exact ⟨a * b, (EReal.coe_mul a b).symm⟩
theorem zero : Fin' 0 := ⟨0, rfl⟩
theorem maxz {x : EReal} (h : Fin' x) : Fin' (max x 0) := by
  rcases max_choice x 0 with e | e <;> rw [e]
  exacts [h, zero]
theorem sum {ι : Type} (s : Finset ι) (f : ι → EReal) (h : ∀ i, Fin' (f i)) : Fin' (∑ i ∈ s, f i) := by
  classical
  induction s using Finset.induction_on with
  | empty => exact zero
  | insert a s ha ih => rw [Finset.sum_insert ha]; exact add (h a) ih
theorem exp {x : EReal} (h : x < ⊤) : Fin' (Ideal.exp x) := by
  induction x using EReal.rec with
  | bot => exact zero
  | coe r => exact ⟨Real.exp r, rfl⟩
  | top => exact absurd h (lt_irrefl _)
theorem tanh (x : EReal) : Fin' (Ideal.tanh x) := by
  induction x using EReal.rec with
  | bot => exact ⟨-1, by simp⟩
  | coe r => exact ⟨Real.tanh r, rfl⟩
  | top => exact ⟨1, by simp⟩
theorem lt_top {x : EReal} : Fin' x → x < ⊤ := by rintro ⟨r, rfl⟩; exact EReal.coe_lt_top r

end Fin'

theorem coe_max0 (a : ℝ) : max (a : EReal) 0 = ((max a 0 : ℝ) : EReal) :=
  ((EReal.coe_strictMono.monotone.map_max (a := a) (b := 0)).trans (by rw [EReal.coe_zero])).symm
theorem coe_min0 (a : ℝ) : min (a : EReal) 0 = ((min a 0 : ℝ) : EReal) :=
  ((EReal.coe_strictMono.monotone.map_min (a := a) (b := 0)).trans (by rw [EReal.coe_zero])).symm
theorem coe_sum' {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- One hidden unit without bias, on each side of zero. -/
theorem unit_split (a w v : ℝ) : max (a * w) 0 * v = v * max w 0 * max a 0 + v * min w 0 * min a 0 := by
  rcases le_total 0 a with ha | ha <;> rcases le_total 0 w with hw | hw
  · rw [max_eq_left (mul_nonneg ha hw), max_eq_left hw, max_eq_left ha, min_eq_right hw, min_eq_right ha]; ring
  · rw [max_eq_right (mul_nonpos_of_nonneg_of_nonpos ha hw), max_eq_right hw, max_eq_left ha, min_eq_left hw, min_eq_right ha]; ring
  · rw [max_eq_right (mul_nonpos_of_nonpos_of_nonneg ha hw), max_eq_left hw, max_eq_right ha, min_eq_right hw, min_eq_left ha]; ring
  · rw [max_eq_left (mul_nonneg_of_nonpos_of_nonpos ha hw), max_eq_right hw, max_eq_right ha, min_eq_left hw, min_eq_left ha]; ring

/-- The network without hidden bias is its two sums times the two parts of its argument. -/
theorem net_split (a : EReal) (w v : Fin 512 → EReal) (ha : Fin' a) (hw : ∀ h, Fin' (w h)) (hv : ∀ h, Fin' (v h)) :
    ∑ h, max (a * w h + 0) 0 * v h = (∑ h, v h * max (w h) 0) * max a 0 + (∑ h, v h * min (w h) 0) * min a 0 := by
  obtain ⟨a, rfl⟩ := ha
  choose w' hw' using hw
  choose v' hv' using hv
  simp only [hw', hv', add_zero, ← EReal.coe_mul, coe_max0, coe_min0, coe_sum', ← EReal.coe_add]
  rw [Finset.sum_mul, Finset.sum_mul, ← Finset.sum_add_distrib]
  exact congrArg _ (Finset.sum_congr rfl fun h _ => unit_split a (w' h) (v' h))

/-- What makes a row of the table a step's: its mixing, its scales and shifts, the network's two sums per output. -/
structure IsRow (r : ℕ → EReal) (p : Row) : Prop where
  m0 : r 0 = p.w 0 0
  m1 : r 1 = p.w 0 1
  m2 : r 2 = p.w 1 0
  m3 : r 3 = p.w 1 1
  e0 : r 4 = Ideal.exp (p.e 0)
  b0 : r 5 = p.b 0
  e1 : r 6 = Ideal.exp (p.e 1)
  b1 : r 7 = p.b 1
  c0 : r 8 = p.b2 0
  c1 : r 9 = p.b2 1
  p0 : r 10 = ∑ h, p.w2 0 h * max (p.w1 h) 0
  n0 : r 11 = ∑ h, p.w2 0 h * min (p.w1 h) 0
  p1 : r 12 = ∑ h, p.w2 1 h * max (p.w1 h) 0
  n1 : r 13 = ∑ h, p.w2 1 h * min (p.w1 h) 0

/-- The finiteness a step needs, and its hidden bias zero. -/
structure FinRow (p : Row) : Prop where
  e : ∀ a, p.e a < ⊤
  b : ∀ a, Fin' (p.b a)
  w1 : ∀ h, Fin' (p.w1 h)
  w2 : ∀ o h, Fin' (p.w2 o h)
  b2 : ∀ o, Fin' (p.b2 o)
  w : ∀ a c, Fin' (p.w a c)
  z : ∀ h, p.b1 h = 0

variable {r : ℕ → EReal} {p : Row}

theorem rH_fin (hp : FinRow p) {a : EReal} (ha : Fin' a) (o : Fin 2) : Fin' (rH p a o) :=
  (Fin'.sum _ _ fun h => (((ha.mul (hp.w1 h)).add (by rw [hp.z h]; exact Fin'.zero)).maxz).mul (hp.w2 o h)).add (hp.b2 o)

theorem rA_fin (hp : FinRow p) {y : EReal} (hy : Fin' y) : Fin' (rA p y) := (hy.mul (Fin'.exp (hp.e 0))).add (hp.b 0)
theorem rB_fin (hp : FinRow p) {y : EReal} (hy : Fin' y) : Fin' (rB p y) := (hy.mul (Fin'.exp (hp.e 1))).add (hp.b 1)
theorem rD_fin (hp : FinRow p) {a b : EReal} (ha : Fin' a) (hb : Fin' b) : Fin' (rD p a b) :=
  (hb.mul (Fin'.exp (Fin'.tanh _).lt_top)).add (rH_fin hp ha 1)

theorem lsc_eq (hr : IsRow r p) (hp : FinRow p) {a : EReal} (ha : Fin' a) : lsc r a = Ideal.tanh (rH p a 0) := by
  unfold lsc rH
  simp only [hp.z]
  rw [net_split a p.w1 (p.w2 0) ha hp.w1 (hp.w2 0), hr.c0, hr.p0, hr.n0, add_comm _ (p.b2 0), add_assoc]

theorem sft_eq (hr : IsRow r p) (hp : FinRow p) {a : EReal} (ha : Fin' a) : sft r a = rH p a 1 := by
  unfold sft rH
  simp only [hp.z]
  rw [net_split a p.w1 (p.w2 1) ha hp.w1 (hp.w2 1), hr.c1, hr.p1, hr.n1, add_comm _ (p.b2 1), add_assoc]

theorem actA_eq (hr : IsRow r p) (y : EReal) : actA r y = rA p y := by rw [actA, rA, hr.e0, hr.b0]
theorem actB_eq (hr : IsRow r p) (y : EReal) : actB r y = rB p y := by rw [actB, rB, hr.e1, hr.b1]
theorem cpl_eq (hr : IsRow r p) (hp : FinRow p) {a b : EReal} (ha : Fin' a) : cpl r a b = rD p a b := by
  rw [cpl, rD, lsc_eq hr hp ha, sft_eq hr hp ha]

/-- A step of each chain from states with the same finite coordinates: the same finite coordinates again. -/
theorem step_eq (hr : IsRow r p) (hp : FinRow p) (s t : St) (h0 : s.y0 = t.y0) (h1 : s.y1 = t.y1) (f0 : Fin' t.y0) (f1 : Fin' t.y1) :
    (stepK r s).y0 = (stepR p t).y0 ∧ (stepK r s).y1 = (stepR p t).y1 ∧ Fin' (stepR p t).y0 ∧ Fin' (stepR p t).y1
      ∧ (stepK r s).s = s.s + Ideal.tanh (rH p (rA p t.y0) 0) := by
  have fa := rA_fin hp f0
  have fd := rD_fin hp fa (rB_fin hp f1)
  refine ⟨?_, ?_, (fa.mul (hp.w 0 0)).add (fd.mul (hp.w 0 1)), (fa.mul (hp.w 1 0)).add (fd.mul (hp.w 1 1)), ?_⟩
  · show mix0 r _ _ = _
    rw [h0, h1, actA_eq hr, actB_eq hr, cpl_eq hr hp fa, mix0, hr.m0, hr.m1]; rfl
  · show mix1 r _ _ = _
    rw [h0, h1, actA_eq hr, actB_eq hr, cpl_eq hr hp fa, mix1, hr.m2, hr.m3]; rfl
  · show s.s + lsc r _ = _
    rw [h0, actA_eq hr, lsc_eq hr hp fa]

/-- What makes a table the reference's parameters': row 0 the first mixing, row `k + 1` step `k`. -/
structure IsTable (C : Tbl) (w : Fin 2 → Fin 2 → EReal) (R : ℕ → Row) : Prop where
  m0 : C 0 0 = w 0 0
  m1 : C 0 1 = w 0 1
  m2 : C 0 2 = w 1 0
  m3 : C 0 3 = w 1 1
  row : ∀ k < 8, IsRow (C (k + 1)) (R k)

variable {C : Tbl} {w : Fin 2 → Fin 2 → EReal} {R : ℕ → Row}

/-- The two chains' states: the same finite coordinates; the reference's sum holds besides the log-scales the mixings'
    log-determinants and the scales' logarithms. -/
theorem flow_eq (hC : IsTable C w R) (hw : ∀ a b, Fin' (w a b)) (hR : ∀ k < 8, FinRow (R k)) {a b : EReal} (fa : Fin' a) (fb : Fin' b) :
    ∀ k ≤ 8, (flowK C a b k).y0 = (flowR w R a b k).y0 ∧ (flowK C a b k).y1 = (flowR w R a b k).y1
      ∧ Fin' (flowR w R a b k).y0 ∧ Fin' (flowR w R a b k).y1
      ∧ (flowR w R a b k).s = (flowK C a b k).s + (ldet w + ∑ i ∈ Finset.range k, ((R i).e 0 + (R i).e 1 + ldet (R i).w)) := by
  intro k
  induction k with
  | zero =>
    intro _
    refine ⟨?_, ?_, (fa.mul (hw 0 0)).add (fb.mul (hw 0 1)), (fa.mul (hw 1 0)).add (fb.mul (hw 1 1)), ?_⟩
    · show mix0 _ a b = _
      rw [mix0, hC.m0, hC.m1]; rfl
    · show mix1 _ a b = _
      rw [mix1, hC.m2, hC.m3]; rfl
    · show ldet w = 0 + (ldet w + _)
      simp
  | succ k ih =>
    intro hk
    obtain ⟨h0, h1, f0, f1, hs⟩ := ih (by omega)
    obtain ⟨g0, g1, e0, e1, gs⟩ := step_eq (hC.row k (by omega)) (hR k (by omega)) (flowK C a b k) (flowR w R a b k) h0 h1 f0 f1
    refine ⟨g0, g1, e0, e1, ?_⟩
    show (flowR w R a b k).s + ((R k).e 0 + (R k).e 1) + Ideal.tanh (rH (R k) (rA (R k) (flowR w R a b k).y0) 0) + ldet (R k).w
      = (stepK (C (k + 1)) (flowK C a b k)).s + _
    rw [gs, hs, Finset.sum_range_succ]
    abel

theorem half_bits : Ideal.ofBits .f32 0x3F000000#32 = ((1 / 2 : ℝ) : EReal) := by
  simp [Ideal.ofBits, Ideal.ieee]; rw [← EReal.coe_mul]; norm_num
theorem two_bits : Ideal.ofBits .f32 0x40000000#32 = ((2 : ℝ) : EReal) := by
  simp [Ideal.ofBits, Ideal.ieee]; rw [← EReal.coe_mul]; norm_num

/-- The two log-densities. -/
theorem logp_eq (hC : IsTable C w R) (hw : ∀ a b, Fin' (w a b)) (hR : ∀ k < 8, FinRow (R k)) {a b : EReal} (fa : Fin' a) (fb : Fin' b)
    (ht : C 0 4 = Ideal.ofBits .f32 0xBFEB3F8E#32 + (ldet w + ∑ i ∈ Finset.range 8, ldet (R i).w)
      + ∑ i ∈ Finset.range 8, ((R i).e 0 + (R i).e 1)) :
    logpK C (flowK C a b 8) = logpR (flowR w R a b 8) := by
  obtain ⟨h0, h1, f0, f1, hs⟩ := flow_eq hC hw hR fa fb 8 le_rfl
  rw [logpK, logpR, h0, h1, hs, ht, two_bits, half_bits, Ideal.div_coe (by norm_num),
    show ∑ i ∈ Finset.range 8, ((R i).e 0 + (R i).e 1 + ldet (R i).w)
      = ∑ i ∈ Finset.range 8, ((R i).e 0 + (R i).e 1) + ∑ i ∈ Finset.range 8, ldet (R i).w from Finset.sum_add_distrib,
    mul_comm ((1 / 2 : ℝ) : EReal), sub_eq_add_neg, sub_eq_add_neg]
  generalize -(((flowR w R a b 8).y0 * (flowR w R a b 8).y0 + (flowR w R a b 8).y1 * (flowR w R a b 8).y1) * ((1 / 2 : ℝ) : EReal)) = q
  generalize ∑ i ∈ Finset.range 8, ((R i).e 0 + (R i).e 1) = u
  generalize ∑ i ∈ Finset.range 8, ldet (R i).w = v
  abel

end Cert.Proof.Flow

end
-- ==== Proof.KernelHost.lean ====
/- The kernel's host lines: the table the region is entered with, and the two coordinate arrays. -/
module

public import proofs.«01_k».proof.Proof.KernelBlock
public import proofs.«01_k».proof.Proof.Bridge
public import proofs.«01_k».proof.Proof.Gen.KernelIdeal.Frame
public import Idealize.ShloMosaic.Lib.Pointwise
public import Idealize.ShloMosaic.Lib.ValueLayout
public import Idealize.ShloMosaic.Lib.IdealHost
public import Idealize.ShloMosaic.Lib.StableHlo.RunRead

@[expose] public section

noncomputable section

namespace Cert.Proof.Host

open Cert.KernelIdeal Cert.KernelIdeal.Gen Cert.KernelIdeal.Facts Idealize.ShloMosaic Idealize.ShloMosaic.TcCoe Idealize.ShloMosaic.StableHlo Idealize.ShloMosaic.Tactic
open Cert.Proof.Flow

/-- The nine log-determinants. -/
def lds (W : FVec Ideal S9x2x2 .f32) : FVec Ideal S9 .f32 :=
  Idealize.ShloMosaic.Host.log (Idealize.ShloMosaic.Host.absf (subf
    (mulf (shapeCast S9 (extractStridedSlice S9x1x1 ![0, 0, 0] W slices_S9x2x2_S9x1x1_0_0_0) shapeCasts_S9x1x1_S9)
      (shapeCast S9 (extractStridedSlice S9x1x1 ![0, 1, 1] W slices_S9x2x2_S9x1x1_0_1_1) shapeCasts_S9x1x1_S9))
    (mulf (shapeCast S9 (extractStridedSlice S9x1x1 ![0, 0, 1] W slices_S9x2x2_S9x1x1_0_0_1) shapeCasts_S9x1x1_S9)
      (shapeCast S9 (extractStridedSlice S9x1x1 ![0, 1, 0] W slices_S9x2x2_S9x1x1_0_1_0) shapeCasts_S9x1x1_S9))))

/-- The density's part that no sample changes. -/
def tot (W : FVec Ideal S9x2x2 .f32) (e : FVec Ideal S8x2 .f32) : FVec Ideal S_ .f32 :=
  addf (addf (constant S_ .f32 0xBFEB3F8E#32) (Idealize.ShloMosaic.Host.reduceAdd (lds W) (constant S_ .f32 0x00000000#32) reducesTo_S9_S_d0 h_S_))
    (Idealize.ShloMosaic.Host.reduceAdd e (constant S_ .f32 0x00000000#32) reducesTo_S8x2_S_d0_1 h_S_)

/-- The first layer's weights without their last axis. -/
def hid (w1 : FVec Ideal S8x512x1 .f32) : FVec Ideal S8x512 .f32 := shapeCast S8x512 w1 shapeCasts_S8x512x1_S8x512

/-- The networks' sums over the weights' positive parts. -/
def pos (w1 : FVec Ideal S8x512x1 .f32) (w2 : FVec Ideal S8x2x512 .f32) : FVec Ideal S8x2 .f32 :=
  Idealize.ShloMosaic.Host.dotGeneral (F := Ideal) (φ₁ := .f32) (φ₂ := .f32) dot_S8x2x512_S8x512_S8x2_2_1_1_n_0_0 none
    (extf .f32 (truncf .bf16 w2 bitsLt_bf16_f32) bitsLt_bf16_f32)
    (maximumf (hid w1) (broadcastInDim S8x512 ![] bcast_S_S8x512 (constant S_ .f32 0x00000000#32)))

/-- The networks' sums over the weights' negative parts. -/
def neg (w1 : FVec Ideal S8x512x1 .f32) (w2 : FVec Ideal S8x2x512 .f32) : FVec Ideal S8x2 .f32 :=
  Idealize.ShloMosaic.Host.dotGeneral (F := Ideal) (φ₁ := .f32) (φ₂ := .f32) dot_S8x2x512_S8x512_S8x2_2_1_1_n_0_0 none
    (extf .f32 (truncf .bf16 w2 bitsLt_bf16_f32) bitsLt_bf16_f32)
    (minimumf (hid w1) (broadcastInDim S8x512 ![] bcast_S_S8x512 (constant S_ .f32 0x00000000#32)))

/-- The mixings after their rounding. -/
def mixes (W : FVec Ideal S9x2x2 .f32) : FVec Ideal S9x2x2 .f32 := extf .f32 (truncf .bf16 W bitsLt_bf16_f32) bitsLt_bf16_f32

/-- The table's first row. -/
def head (W : FVec Ideal S9x2x2 .f32) (e : FVec Ideal S8x2 .f32) : FVec Ideal S16 .f32 :=
  concatenate S16 0 [⟨S4, shapeCast S4 (shapeCast S2x2 (extractStridedSlice S1x2x2 ![0, 0, 0] (mixes W) slices_S9x2x2_S1x2x2_0_0_0) shapeCasts_S1x2x2_S2x2) shapeCasts_S2x2_S4⟩,
    ⟨S1, broadcastInDim S1 ![] bcast_S_S1 (tot W e)⟩,
    ⟨S11, broadcastInDim S11 ![] bcast_S_S11 (constant (F := Ideal) S_ .f32 0x00000000#32)⟩] concatenates_S4_S1_S11_S16_d0

/-- Column 0, and column 1, of a step-indexed pair. -/
def col0 (v : FVec Ideal S8x2 .f32) : FVec Ideal S8x1 .f32 := extractStridedSlice S8x1 ![0, 0] v slices_S8x2_S8x1_0_0
def col1 (v : FVec Ideal S8x2 .f32) : FVec Ideal S8x1 .f32 := extractStridedSlice S8x1 ![0, 1] v slices_S8x2_S8x1_0_1

/-- The table's other rows, from their columns. -/
def rows (w : FVec Ideal S8x4 .f32) (e b c p n : FVec Ideal S8x2 .f32) : FVec Ideal S8x16 .f32 :=
  concatenate S8x16 1 [⟨S8x4, w⟩, ⟨S8x1, col0 e⟩, ⟨S8x1, col0 b⟩, ⟨S8x1, col1 e⟩, ⟨S8x1, col1 b⟩, ⟨S8x2, c⟩,
    ⟨S8x1, col0 p⟩, ⟨S8x1, col0 n⟩, ⟨S8x1, col1 p⟩, ⟨S8x1, col1 n⟩,
    ⟨S8x2, broadcastInDim S8x2 ![] bcast_S_S8x2 (constant (F := Ideal) S_ .f32 0x00000000#32)⟩]
    concatenates_S8x4_S8x1_S8x1_S8x1_S8x1_S8x2_S8x1_S8x1_S8x1_S8x1_S8x2_S8x16_d1

/-- The steps' mixings, one row each. -/
def stepMixes (W : FVec Ideal S9x2x2 .f32) : FVec Ideal S8x4 .f32 :=
  shapeCast S8x4 (extractStridedSlice S8x2x2 ![1, 0, 0] (mixes W) slices_S9x2x2_S8x2x2_1_0_0) shapeCasts_S8x2x2_S8x4

/-- The whole table. -/
def table (h : FVec Ideal S16 .f32) (r : FVec Ideal S8x16 .f32) : FVec Ideal S9x16 .f32 :=
  concatenate S9x16 0 [⟨S1x16, broadcastInDim S1x16 ![1] bcast_S16_S1x16_1 h⟩, ⟨S8x16, r⟩] concatenates_S1x16_S8x16_S9x16_d0

theorem lds_at (W : FVec Ideal S9x2x2 .f32) (k : Fin 9) : (lds W (ix1 k) : EReal) = ldet (fun a b => W (ix3 k a b)) := by
  unfold ldet
  pointwise [lds]
  rfl

theorem tot_at (W : FVec Ideal S9x2x2 .f32) (e : FVec Ideal S8x2 .f32) (j : S_.Idx) :
    (tot W e j : EReal) = Ideal.ofBits .f32 0xBFEB3F8E#32 + (∑ k : Fin 9, lds W (ix1 k)) + ∑ k : Fin 8, ∑ a : Fin 2, e (ix2 k a) := by
  pointwise [tot]

theorem pos_at (w1 : FVec Ideal S8x512x1 .f32) (w2 : FVec Ideal S8x2x512 .f32) (k : Fin 8) (o : Fin 2) :
    (pos w1 w2 (ix2 k o) : EReal) = ∑ h : Fin 512, w2 (ix3 k o h) * max (w1 (ix3 k h 0)) 0 := by
  pointwise [pos, hid]

theorem neg_at (w1 : FVec Ideal S8x512x1 .f32) (w2 : FVec Ideal S8x2x512 .f32) (k : Fin 8) (o : Fin 2) :
    (neg w1 w2 (ix2 k o) : EReal) = ∑ h : Fin 512, w2 (ix3 k o h) * min (w1 (ix3 k h 0)) 0 := by
  pointwise [neg, hid]

theorem head_0 (W : FVec Ideal S9x2x2 .f32) (e : FVec Ideal S8x2 .f32) : (head W e (ix1 0) : EReal) = W (ix3 0 0 0) := by pointwise [head, mixes]
theorem head_1 (W : FVec Ideal S9x2x2 .f32) (e : FVec Ideal S8x2 .f32) : (head W e (ix1 1) : EReal) = W (ix3 0 0 1) := by pointwise [head, mixes]
theorem head_2 (W : FVec Ideal S9x2x2 .f32) (e : FVec Ideal S8x2 .f32) : (head W e (ix1 2) : EReal) = W (ix3 0 1 0) := by pointwise [head, mixes]
theorem head_3 (W : FVec Ideal S9x2x2 .f32) (e : FVec Ideal S8x2 .f32) : (head W e (ix1 3) : EReal) = W (ix3 0 1 1) := by pointwise [head, mixes]
theorem head_4 (W : FVec Ideal S9x2x2 .f32) (e : FVec Ideal S8x2 .f32) (j : S_.Idx) : (head W e (ix1 4) : EReal) = tot W e j := by
  pointwise [head]
  exact congrArg (tot W e) (funext fun d => d.elim0)

theorem stepMixes_at (W : FVec Ideal S9x2x2 .f32) (k : Fin 8) : (stepMixes W (ix2 k 0) : EReal) = W (ix3 ⟨1 + k.val, by omega⟩ 0 0)
    ∧ (stepMixes W (ix2 k 1) : EReal) = W (ix3 ⟨1 + k.val, by omega⟩ 0 1) ∧ (stepMixes W (ix2 k 2) : EReal) = W (ix3 ⟨1 + k.val, by omega⟩ 1 0)
    ∧ (stepMixes W (ix2 k 3) : EReal) = W (ix3 ⟨1 + k.val, by omega⟩ 1 1) := by
  refine ⟨?_, ?_, ?_, ?_⟩ <;> pointwise [stepMixes, mixes]

section
variable (w : FVec Ideal S8x4 .f32) (e b c p n : FVec Ideal S8x2 .f32) (k : Fin 8)
theorem rows_w (l : Fin 4) : (rows w e b c p n (ix2 k ⟨l.val, by omega⟩) : EReal) = w (ix2 k l) := by pointwise [rows]
theorem rows_4 : (rows w e b c p n (ix2 k 4) : EReal) = e (ix2 k 0) := by pointwise [rows, col0, col1]
theorem rows_5 : (rows w e b c p n (ix2 k 5) : EReal) = b (ix2 k 0) := by pointwise [rows, col0, col1]
theorem rows_6 : (rows w e b c p n (ix2 k 6) : EReal) = e (ix2 k 1) := by pointwise [rows, col0, col1]
theorem rows_7 : (rows w e b c p n (ix2 k 7) : EReal) = b (ix2 k 1) := by pointwise [rows, col0, col1]
theorem rows_8 : (rows w e b c p n (ix2 k 8) : EReal) = c (ix2 k 0) := by pointwise [rows, col0, col1]
theorem rows_9 : (rows w e b c p n (ix2 k 9) : EReal) = c (ix2 k 1) := by pointwise [rows, col0, col1]
theorem rows_10 : (rows w e b c p n (ix2 k 10) : EReal) = p (ix2 k 0) := by pointwise [rows, col0, col1]
theorem rows_11 : (rows w e b c p n (ix2 k 11) : EReal) = n (ix2 k 0) := by pointwise [rows, col0, col1]
theorem rows_12 : (rows w e b c p n (ix2 k 12) : EReal) = p (ix2 k 1) := by pointwise [rows, col0, col1]
theorem rows_13 : (rows w e b c p n (ix2 k 13) : EReal) = n (ix2 k 1) := by pointwise [rows, col0, col1]
end

theorem table_head (h : FVec Ideal S16 .f32) (r : FVec Ideal S8x16 .f32) (l : Fin 16) : (table h r (ix2 0 l) : EReal) = h (ix1 l) := by
  pointwise [table]
theorem table_rows (h : FVec Ideal S16 .f32) (r : FVec Ideal S8x16 .f32) (k : Fin 8) (l : Fin 16) :
    (table h r (ix2 ⟨1 + k.val, by omega⟩ l) : EReal) = r (ix2 k l) := by
  pointwise [table]

variable (m : (ℓ : Loc nD τ sig) → Buf (Elt Ideal) ℓ) (c : Dev nD)

/-- The arguments as arrays. -/
abbrev aX : Vec Ideal S131072x2 .f32 := m ((c.tc : Thread nD τ).loc main_arg0)
abbrev aW : Vec Ideal S9x2x2 .f32 := m ((c.tc : Thread nD τ).loc main_arg1)
abbrev aE : Vec Ideal S8x2 .f32 := m ((c.tc : Thread nD τ).loc main_arg2)
abbrev aB : Vec Ideal S8x2 .f32 := m ((c.tc : Thread nD τ).loc main_arg3)
abbrev aW1 : Vec Ideal S8x512x1 .f32 := m ((c.tc : Thread nD τ).loc main_arg4)
abbrev aW2 : Vec Ideal S8x2x512 .f32 := m ((c.tc : Thread nD τ).loc main_arg6)
abbrev aB2 : Vec Ideal S8x2 .f32 := m ((c.tc : Thread nD τ).loc main_arg7)

set_option maxHeartbeats 4000000 in
theorem V_table : (V m c main_v48 : Vec Ideal S9x16 .f32)
    = table (head (aW m c) (aE m c)) (rows (stepMixes (aW m c)) (Idealize.ShloMosaic.Host.exp (F := Ideal) (φ := .f32) (aE m c)) (aB m c) (aB2 m c)
        (pos (aW1 m c) (aW2 m c)) (neg (aW1 m c) (aW2 m c))) := by
  unfold V V0
  unfold_abbrev_sides
  after_reads_simp
  rfl

set_option maxHeartbeats 4000000 in
theorem V_x0 : (V m c main_v51 : Vec Ideal S16x64x128 .f32)
    = shapeCast S16x64x128 (shapeCast S131072 (extractStridedSlice S131072x1 ![0, 0] (aX m c) slices_S131072x2_S131072x1_0_0)
        shapeCasts_S131072x1_S131072) shapeCasts_S131072_S16x64x128 := by
  unfold V V0
  unfold_abbrev_sides
  after_reads_simp
  rfl

set_option maxHeartbeats 4000000 in
theorem V_x1 : (V m c main_v54 : Vec Ideal S16x64x128 .f32)
    = shapeCast S16x64x128 (shapeCast S131072 (extractStridedSlice S131072x1 ![0, 1] (aX m c) slices_S131072x2_S131072x1_0_1)
        shapeCasts_S131072x1_S131072) shapeCasts_S131072_S16x64x128 := by
  unfold V V0
  unfold_abbrev_sides
  after_reads_simp
  rfl

end Cert.Proof.Host

end
-- ==== Proof.KernelArray.lean ====
/- The kernel's three output arrays, element by element: the chain over the table, from the sample's two coordinates. -/
module

public import proofs.«01_k».proof.Proof.KernelHost
public import Idealize.ShloMosaic.Lib.Pipeline.Value

@[expose] public section

noncomputable section

namespace Cert.Proof.Arr

open Cert.KernelIdeal Cert.KernelIdeal.Gen Cert.KernelIdeal.Facts Idealize.ShloMosaic Idealize.ShloMosaic.TcCoe
open Idealize.ShloMosaic.Pipeline (Dat)
open Cert.Proof.Flow Cert.Proof.Host Cert.Proof.Block

variable (m : (ℓ : Loc nD τ sig) → Buf (Elt Ideal) ℓ) (c : Dev nD)

theorem n16 : cfg0.N = 16 := N_0

/-- A grid point's place in a tiled array. -/
def place (t : Fin cfg0.N) : Fin 16 := ⟨t.val, n16 ▸ t.isLt⟩

theorem idx0 : ∀ t : Fin cfg0.N, win0_0.index t 0 = 0 ∧ win0_0.index t 1 = 0 :=
  (by decide +kernel : ∀ t : Fin grid0.N, win0_0.index t 0 = 0 ∧ win0_0.index t 1 = 0)
theorem idx1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)
theorem idx2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)
theorem idx3 : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)
theorem idx4 : ∀ t : Fin cfg0.N, win0_4.index t 0 = t.val ∧ win0_4.index t 1 = 0 ∧ win0_4.index t 2 = 0 :=
  (by decide +kernel : ∀ t : Fin grid0.N, win0_4.index t 0 = t.val ∧ win0_4.index t 1 = 0 ∧ win0_4.index t 2 = 0)
theorem idx5 : ∀ t : Fin cfg0.N, win0_5.index t 0 = t.val ∧ win0_5.index t 1 = 0 ∧ win0_5.index t 2 = 0 :=
  (by decide +kernel : ∀ t : Fin grid0.N, win0_5.index t 0 = t.val ∧ win0_5.index t 1 = 0 ∧ win0_5.index t 2 = 0)

theorem iblk0 (t : Fin cfg0.N) (k : Fin 9) (l : Fin 16) : (iblk m c 0 t : Vec Ideal S9x16 .f32) (ix2 k l) = (V m c main_v48 : Vec Ideal S9x16 .f32) (ix2 k l) := by
  refine congrArg (V m c main_v48 : Vec Ideal S9x16 .f32) (funext fun a => Fin.ext ?_)
  have h := idx0 t
  match a with
  | ⟨0, _⟩ => refine (Pipeline.Window.rect_emb_val win0_0 t _ _ rfl).trans ?_; show win0_0.index t 0 * 9 + k.val = k.val; omega
  | ⟨1, _⟩ => refine (Pipeline.Window.rect_emb_val win0_0 t _ _ rfl).trans ?_; show win0_0.index t 1 * 16 + l.val = l.val; omega

theorem iblk1 (t : Fin cfg0.N) (i : Fin 64) (j : Fin 128) :
    (iblk m c 1 t : Vec Ideal S1x64x128 .f32) (ix3 0 i j) = (V m c main_v51 : Vec Ideal S16x64x128 .f32) (ix3 (place t) i j) := by
  refine congrArg (V m c main_v51 : Vec Ideal S16x64x128 .f32) (funext fun a => Fin.ext ?_)
  have h := idx1 t
  match a with
  | ⟨0, _⟩ => refine (Pipeline.Window.rect_emb_val win0_1 t _ _ rfl).trans ?_; show win0_1.index t 0 * 1 + 0 = t.val; omega
  | ⟨1, _⟩ => refine (Pipeline.Window.rect_emb_val win0_1 t _ _ rfl).trans ?_; show win0_1.index t 1 * 64 + i.val = i.val; omega
  | ⟨2, _⟩ => refine (Pipeline.Window.rect_emb_val win0_1 t _ _ rfl).trans ?_; show win0_1.index t 2 * 128 + j.val = j.val; omega

theorem iblk2 (t : Fin cfg0.N) (i : Fin 64) (j : Fin 128) :
    (iblk m c 2 t : Vec Ideal S1x64x128 .f32) (ix3 0 i j) = (V m c main_v54 : Vec Ideal S16x64x128 .f32) (ix3 (place t) i j) := by
  refine congrArg (V m c main_v54 : Vec Ideal S16x64x128 .f32) (funext fun a => Fin.ext ?_)
  have h := idx2 t
  match a with
  | ⟨0, _⟩ => refine (Pipeline.Window.rect_emb_val win0_2 t _ _ rfl).trans ?_; show win0_2.index t 0 * 1 + 0 = t.val; omega
  | ⟨1, _⟩ => refine (Pipeline.Window.rect_emb_val win0_2 t _ _ rfl).trans ?_; show win0_2.index t 1 * 64 + i.val = i.val; omega
  | ⟨2, _⟩ => refine (Pipeline.Window.rect_emb_val win0_2 t _ _ rfl).trans ?_; show win0_2.index t 2 * 128 + j.val = j.val; omega

/-- The table as the region finds it. -/
abbrev tabV : Tbl := tab (V m c main_v48 : Vec Ideal S9x16 .f32)

theorem tab_iblk (t : Fin cfg0.N) : tab (iblk m c 0 t : Vec Ideal S9x16 .f32) = tabV m c :=
  congrArg tab (funext fun j => by
    have h := iblk0 m c t (j 0) (j 1)
    have e : j = ix2 (j 0) (j 1) := funext fun a => by match a with | ⟨0, _⟩ => rfl | ⟨1, _⟩ => rfl
    rw [e]; exact h)

/-- The chain's state at a sample of the tiled arrays. -/
abbrev stV (t : Fin 16) (i : Fin 64) (j : Fin 128) : St :=
  flowK (tabV m c) ((V m c main_v51 : Vec Ideal S16x64x128 .f32) (ix3 t i j)) ((V m c main_v54 : Vec Ideal S16x64x128 .f32) (ix3 t i j)) 8

theorem arr3_pt (t : Fin cfg0.N) (i : Fin 64) (j : Fin 128) :
    ((dats m 0 c).arrAt 3 cfg0.N : Vec Ideal S16x64x128 .f32) (ix3 (place t) i j) = (stV m c (place t) i j).y0 := by
  have hinj : ∀ t t' : Fin cfg0.N, win0_3.index t = win0_3.index t' → t = t' := fun t t' h =>
    Fin.ext ((idx3 t).1.symm.trans ((congrFun h 0).trans (idx3 t').1))
  have e := congrFun ((dats m 0 c).read_blk_arrAt_eq_flushed 3 (fun t t' _ _ hne => (cfg0.win 3).disjoint_blk fun h => hne (hinj t t' h)) cfg0.N t t.isLt (flush0_3 t))
    (ix3 (0 : Fin 1) i j : S1x64x128.Idx)
  refine Eq.trans (congrArg ((dats m 0 c).arrAt 3 cfg0.N : Vec Ideal S16x64x128 .f32) (funext fun a => Fin.ext ?_)) (e.trans ?_)
  · have h := idx3 t
    match a with
    | ⟨0, _⟩ => refine Eq.trans ?_ (Pipeline.Window.rect_emb_val win0_3 t _ _ rfl).symm; show t.val = win0_3.index t 0 * 1 + 0; omega
    | ⟨1, _⟩ => refine Eq.trans ?_ (Pipeline.Window.rect_emb_val win0_3 t _ _ rfl).symm; show i.val = win0_3.index t 1 * 64 + i.val; omega
    | ⟨2, _⟩ => refine Eq.trans ?_ (Pipeline.Window.rect_emb_val win0_3 t _ _ rfl).symm; show j.val = win0_3.index t 2 * 128 + j.val; omega
  · show (cfg0.win 3).cut (grid0.coords t) ((dats m 0 c).after 3 t) _ = _
    rw [after0_3]
    have hc : ∀ X : Vec Ideal S1x64x128 .f32, (cfg0.win 3).cut (grid0.coords t) X (ix3 (0 : Fin 1) i j : S1x64x128.Idx) = X (ix3 0 i j) := fun _ => rfl
    rw [hc]
    simp only [outsAt0]
    rw [out3_at]
    rw [tab_iblk, iblk1, iblk2]

theorem arr4_pt (t : Fin cfg0.N) (i : Fin 64) (j : Fin 128) :
    ((dats m 0 c).arrAt 4 cfg0.N : Vec Ideal S16x64x128 .f32) (ix3 (place t) i j) = (stV m c (place t) i j).y1 := by
  have hinj : ∀ t t' : Fin cfg0.N, win0_4.index t = win0_4.index t' → t = t' := fun t t' h =>
    Fin.ext ((idx4 t).1.symm.trans ((congrFun h 0).trans (idx4 t').1))
  have e := congrFun ((dats m 0 c).read_blk_arrAt_eq_flushed 4 (fun t t' _ _ hne => (cfg0.win 4).disjoint_blk fun h => hne (hinj t t' h)) cfg0.N t t.isLt (flush0_4 t))
    (ix3 (0 : Fin 1) i j : S1x64x128.Idx)
  refine Eq.trans (congrArg ((dats m 0 c).arrAt 4 cfg0.N : Vec Ideal S16x64x128 .f32) (funext fun a => Fin.ext ?_)) (e.trans ?_)
  · have h := idx4 t
    match a with
    | ⟨0, _⟩ => refine Eq.trans ?_ (Pipeline.Window.rect_emb_val win0_4 t _ _ rfl).symm; show t.val = win0_4.index t 0 * 1 + 0; omega
    | ⟨1, _⟩ => refine Eq.trans ?_ (Pipeline.Window.rect_emb_val win0_4 t _ _ rfl).symm; show i.val = win0_4.index t 1 * 64 + i.val; omega
    | ⟨2, _⟩ => refine Eq.trans ?_ (Pipeline.Window.rect_emb_val win0_4 t _ _ rfl).symm; show j.val = win0_4.index t 2 * 128 + j.val; omega
  · show (cfg0.win 4).cut (grid0.coords t) ((dats m 0 c).after 4 t) _ = _
    rw [after0_4]
    have hc : ∀ X : Vec Ideal S1x64x128 .f32, (cfg0.win 4).cut (grid0.coords t) X (ix3 (0 : Fin 1) i j : S1x64x128.Idx) = X (ix3 0 i j) := fun _ => rfl
    rw [hc]
    simp only [outsAt0]
    rw [out4_at]
    rw [tab_iblk, iblk1, iblk2]

theorem arr5_pt (t : Fin cfg0.N) (i : Fin 64) (j : Fin 128) :
    ((dats m 0 c).arrAt 5 cfg0.N : Vec Ideal S16x64x128 .f32) (ix3 (place t) i j) = logpK (tabV m c) (stV m c (place t) i j) := by
  have hinj : ∀ t t' : Fin cfg0.N, win0_5.index t = win0_5.index t' → t = t' := fun t t' h =>
    Fin.ext ((idx5 t).1.symm.trans ((congrFun h 0).trans (idx5 t').1))
  have e := congrFun ((dats m 0 c).read_blk_arrAt_eq_flushed 5 (fun t t' _ _ hne => (cfg0.win 5).disjoint_blk fun h => hne (hinj t t' h)) cfg0.N t t.isLt (flush0_5 t))
    (ix3 (0 : Fin 1) i j : S1x64x128.Idx)
  refine Eq.trans (congrArg ((dats m 0 c).arrAt 5 cfg0.N : Vec Ideal S16x64x128 .f32) (funext fun a => Fin.ext ?_)) (e.trans ?_)
  · have h := idx5 t
    match a with
    | ⟨0, _⟩ => refine Eq.trans ?_ (Pipeline.Window.rect_emb_val win0_5 t _ _ rfl).symm; show t.val = win0_5.index t 0 * 1 + 0; omega
    | ⟨1, _⟩ => refine Eq.trans ?_ (Pipeline.Window.rect_emb_val win0_5 t _ _ rfl).symm; show i.val = win0_5.index t 1 * 64 + i.val; omega
    | ⟨2, _⟩ => refine Eq.trans ?_ (Pipeline.Window.rect_emb_val win0_5 t _ _ rfl).symm; show j.val = win0_5.index t 2 * 128 + j.val; omega
  · show (cfg0.win 5).cut (grid0.coords t) ((dats m 0 c).after 5 t) _ = _
    rw [after0_5]
    have hc : ∀ X : Vec Ideal S1x64x128 .f32, (cfg0.win 5).cut (grid0.coords t) X (ix3 (0 : Fin 1) i j : S1x64x128.Idx) = X (ix3 0 i j) := fun _ => rfl
    rw [hc]
    simp only [outsAt0]
    rw [out5_at]
    rw [tab_iblk, iblk1, iblk2]

/-- Every tile is some grid point's. -/
theorem place_of (t : Fin 16) : place ⟨t.val, n16.symm ▸ t.isLt⟩ = t := rfl

theorem arr3 (t : Fin 16) (i : Fin 64) (j : Fin 128) :
    ((dats m 0 c).arrAt 3 cfg0.N : Vec Ideal S16x64x128 .f32) (ix3 t i j) = (stV m c t i j).y0 := arr3_pt m c ⟨t.val, n16.symm ▸ t.isLt⟩ i j
theorem arr4 (t : Fin 16) (i : Fin 64) (j : Fin 128) :
    ((dats m 0 c).arrAt 4 cfg0.N : Vec Ideal S16x64x128 .f32) (ix3 t i j) = (stV m c t i j).y1 := arr4_pt m c ⟨t.val, n16.symm ▸ t.isLt⟩ i j
theorem arr5 (t : Fin 16) (i : Fin 64) (j : Fin 128) :
    ((dats m 0 c).arrAt 5 cfg0.N : Vec Ideal S16x64x128 .f32) (ix3 t i j) = logpK (tabV m c) (stV m c t i j) := arr5_pt m c ⟨t.val, n16.symm ▸ t.isLt⟩ i j

end Cert.Proof.Arr

end
-- ==== Proof.KernelTail.lean ====
/- The kernel's results, sample by sample: the lines after the region, and the coordinates it is entered with. -/
module

public import proofs.«01_k».proof.Proof.KernelArray

@[expose] public section

noncomputable section

namespace Cert.Proof.Tail

open Cert.KernelIdeal Cert.KernelIdeal.Gen Cert.KernelIdeal.Facts Idealize.ShloMosaic Idealize.ShloMosaic.TcCoe Idealize.ShloMosaic.StableHlo Idealize.ShloMosaic.Tactic
open Cert.Proof.Flow Cert.Proof.Host Cert.Proof.Block Cert.Proof.Arr

/-- Sample `n`'s tile, and its place in the tile. -/
def tOf (n : Fin 131072) : Fin 16 := ⟨n.val / 8192, by omega⟩
def iOf (n : Fin 131072) : Fin 64 := ⟨n.val / 128 % 64, by omega⟩
def jOf (n : Fin 131072) : Fin 128 := ⟨n.val % 128, by omega⟩

theorem col_at0 (x : FVec Ideal S131072x2 .f32) (n : Fin 131072) :
    (shapeCast S16x64x128 (shapeCast S131072 (extractStridedSlice S131072x1 ![0, 0] x slices_S131072x2_S131072x1_0_0)
        shapeCasts_S131072x1_S131072) shapeCasts_S131072_S16x64x128 : FVec Ideal S16x64x128 .f32) (ix3 (tOf n) (iOf n) (jOf n)) = x (ix2 n 0) := by
  pointwise
  exact congrArg (fun k => x (ix2 k 0)) (Fin.ext (by show n.val / 8192 * 8192 + n.val / 128 % 64 * 128 + n.val % 128 = n.val; omega))

theorem col_at1 (x : FVec Ideal S131072x2 .f32) (n : Fin 131072) :
    (shapeCast S16x64x128 (shapeCast S131072 (extractStridedSlice S131072x1 ![0, 1] x slices_S131072x2_S131072x1_0_1)
        shapeCasts_S131072x1_S131072) shapeCasts_S131072_S16x64x128 : FVec Ideal S16x64x128 .f32) (ix3 (tOf n) (iOf n) (jOf n)) = x (ix2 n 1) := by
  pointwise
  exact congrArg (fun k => x (ix2 k 1)) (Fin.ext (by show n.val / 8192 * 8192 + n.val / 128 % 64 * 128 + n.val % 128 = n.val; omega))

theorem pair_at0 (x y : FVec Ideal S16x64x128 .f32) (n : Fin 131072) :
    (concatenate S131072x2 1 [⟨S131072x1, shapeCast S131072x1 x shapeCasts_S16x64x128_S131072x1⟩, ⟨S131072x1, shapeCast S131072x1 y shapeCasts_S16x64x128_S131072x1⟩]
      concatenates_S131072x1_S131072x1_S131072x2_d1 : FVec Ideal S131072x2 .f32) (ix2 n 0) = x (ix3 (tOf n) (iOf n) (jOf n)) := by
  pointwise
  rfl

theorem pair_at1 (x y : FVec Ideal S16x64x128 .f32) (n : Fin 131072) :
    (concatenate S131072x2 1 [⟨S131072x1, shapeCast S131072x1 x shapeCasts_S16x64x128_S131072x1⟩, ⟨S131072x1, shapeCast S131072x1 y shapeCasts_S16x64x128_S131072x1⟩]
      concatenates_S131072x1_S131072x1_S131072x2_d1 : FVec Ideal S131072x2 .f32) (ix2 n 1) = y (ix3 (tOf n) (iOf n) (jOf n)) := by
  pointwise
  rfl

theorem flat_at (x : FVec Ideal S16x64x128 .f32) (n : Fin 131072) :
    (shapeCast S131072 x shapeCasts_S16x64x128_S131072 : FVec Ideal S131072 .f32) (ix1 n) = x (ix3 (tOf n) (iOf n) (jOf n)) := by
  pointwise
  rfl

variable (m : (ℓ : Loc nD τ sig) → Buf (Elt Ideal) ℓ) (c : Dev nD)

theorem after58 (W : Valuation τ sig (Elt Ideal)) : (StableHlo.after (List.flatten [hostOps1]) W (Proc.devRef .tc main_v58) : Vec Ideal S131072x2 .f32)
    = concatenate S131072x2 1 [⟨S131072x1, shapeCast S131072x1 (W (Proc.devRef .tc main_v55_0)) shapeCasts_S16x64x128_S131072x1⟩,
        ⟨S131072x1, shapeCast S131072x1 (W (Proc.devRef .tc main_v55_1)) shapeCasts_S16x64x128_S131072x1⟩] concatenates_S131072x1_S131072x1_S131072x2_d1 := by
  unfold_abbrev_sides
  after_reads_simp
  rfl

theorem after59 (W : Valuation τ sig (Elt Ideal)) : (StableHlo.after (List.flatten [hostOps1]) W (Proc.devRef .tc main_v59) : Vec Ideal S131072 .f32)
    = shapeCast S131072 (W (Proc.devRef .tc main_v55_2)) shapeCasts_S16x64x128_S131072 := by
  unfold_abbrev_sides
  after_reads_simp
  rfl

/-- What the lines after the region leave in the two results. -/
abbrev res0 : Vec Ideal S131072x2 .f32 := Pipeline.afterTail₀ cfgs (dats m) 0 (V0 m) [hostOps1] c main_v58
abbrev res1 : Vec Ideal S131072 .f32 := Pipeline.afterTail₀ cfgs (dats m) 0 (V0 m) [hostOps1] c main_v59

/-- The chain's state at a sample. -/
abbrev stN (n : Fin 131072) : St := flowK (tabV m c) (aX m c (ix2 n 0)) (aX m c (ix2 n 1)) 8

theorem stV_eq (n : Fin 131072) : stV m c (tOf n) (iOf n) (jOf n) = stN m c n := by
  unfold stV stN
  rw [V_x0, V_x1, col_at0, col_at1]

theorem inj : Function.Injective (Pipeline.arrRef spec0) := by decide

theorem res0_y0 (n : Fin 131072) : res0 m c (ix2 n 0) = (stN m c n).y0 := by
  unfold res0 Pipeline.afterTail₀
  rw [after58]
  refine (pair_at0 _ _ n).trans ?_
  rw [← stV_eq, ← arr3]
  exact congrFun (Pipeline.withArrays_arr spec0 inj c (V0 m c) (fun w => (dats m 0 c).arrAt w cfg0.N) 3) _

theorem res0_y1 (n : Fin 131072) : res0 m c (ix2 n 1) = (stN m c n).y1 := by
  unfold res0 Pipeline.afterTail₀
  rw [after58]
  refine (pair_at1 _ _ n).trans ?_
  rw [← stV_eq, ← arr4]
  exact congrFun (Pipeline.withArrays_arr spec0 inj c (V0 m c) (fun w => (dats m 0 c).arrAt w cfg0.N) 4) _

theorem res1_at (n : Fin 131072) : res1 m c (ix1 n) = logpK (tabV m c) (stN m c n) := by
  unfold res1 Pipeline.afterTail₀
  rw [after59]
  refine (flat_at _ n).trans ?_
  rw [← stV_eq, ← arr5]
  exact congrFun (Pipeline.withArrays_arr spec0 inj c (V0 m c) (fun w => (dats m 0 c).arrAt w cfg0.N) 5) _

end Cert.Proof.Tail

end
-- ==== Proof.RefStep.lean ====
/- One trip of the reference's loop, read at one sample, is one step of `Flow`'s reference chain. -/
module

public import proofs.«01_k».proof.Proof.FlowRef
public import proofs.«01_k».proof.Proof.Gen.ReferenceIdeal.Run
public import Idealize.ShloMosaic.Lib.Pointwise
public import Idealize.ShloMosaic.Lib.DynamicIndex
public import Idealize.ShloMosaic.Lib.ValueLayout
public import Idealize.ShloMosaic.Lib.IdealHost

@[expose] public section

noncomputable section

namespace Cert.Proof.Ref

open Cert.ReferenceIdeal Cert.ReferenceIdeal.Gen Cert.ReferenceIdeal.Value Idealize.ShloMosaic Idealize.ShloMosaic.TcCoe
open Cert.Proof.Flow

/-- What the loop carries before trip `k`: the parameters, the counter, the samples' coordinates and their log-Jacobians. -/
structure Holds (V : Valuation τ sig (Elt Ideal)) (k : Fin 8) (W : Vec Ideal S8x2x2 .f32) (els ab : Vec Ideal S8x2 .f32) (w1 : Vec Ideal S8x512x1 .f32)
    (b1 : Vec Ideal S8x512 .f32) (w2 : Vec Ideal S8x2x512 .f32) (b2 : Vec Ideal S8x2 .f32) (y : Vec Ideal S131072x2 .f32)
    (l : Vec Ideal S131072 .f32) : Prop where
  h0 : V (Proc.devRef .tc main_v7_0) = W
  h1 : V (Proc.devRef .tc main_v7_1) = els
  h2 : V (Proc.devRef .tc main_v7_2) = ab
  h3 : V (Proc.devRef .tc main_v7_3) = w1
  h4 : V (Proc.devRef .tc main_v7_4) = b1
  h5 : V (Proc.devRef .tc main_v7_5) = w2
  h6 : V (Proc.devRef .tc main_v7_6) = b2
  h7 : V (Proc.devRef .tc main_v7_7) = fun _ => Scf.iv 0#32 1#32 k.val
  h8 : V (Proc.devRef .tc main_v7_8) = y
  h9 : V (Proc.devRef .tc main_v7_9) = l

/-- Step `k`'s parameters of the stacked arrays. -/
def rowOf (W : Vec Ideal S8x2x2 .f32) (els ab : Vec Ideal S8x2 .f32) (w1 : Vec Ideal S8x512x1 .f32)
    (b1 : Vec Ideal S8x512 .f32) (w2 : Vec Ideal S8x2x512 .f32) (b2 : Vec Ideal S8x2 .f32) (k : Fin 8) : Row where
  e := fun a => els (ix2 k a)
  b := fun a => ab (ix2 k a)
  w1 := fun h => w1 (ix3 k h 0)
  b1 := fun h => b1 (ix2 k h)
  w2 := fun o h => w2 (ix3 k o h)
  b2 := fun a => b2 (ix2 k a)
  w := fun a c => W (ix3 k a c)

theorem iv_toInt : ∀ k : Fin 8, (Scf.iv 0#32 1#32 k.val).toInt = (k.val : Int) := by decide

/-- The counter's slice of a stack of matrices. -/
theorem dyn3 (n1 n2 : ℕ) (x : Vec Ideal ⟨3, ![8, n1, n2]⟩ .f32) (k : Fin 8) (st : Fin 3 → Int) (h) (hst : st = fun a => ((![k.val, 0, 0] a : ℕ) : Int))
    (p : Fin 1) (a : Fin n1) (b : Fin n2) : Host.dynamicSlice ⟨3, ![1, n1, n2]⟩ x st h (ix3 p a b) = x (ix3 k a b) := by
  have hk := k.isLt
  rw [Host.dynamicSlice_eq_extractStridedSlice ⟨3, ![1, n1, n2]⟩ x st ![k.val, 0, 0] h
    ⟨rfl, fun a => by match a with
      | ⟨0, _⟩ => show k.val + 1 ≤ 8; omega
      | ⟨1, _⟩ => show 0 + n1 ≤ n1; omega
      | ⟨2, _⟩ => show 0 + n2 ≤ n2; omega⟩ (fun a => by rw [hst])]
  refine congrArg x (funext fun c => Fin.ext ?_)
  have hp : p.val = 0 := by omega
  match c with
  | ⟨0, _⟩ => show k.val + p.val = k.val; omega
  | ⟨1, _⟩ => show 0 + a.val = a.val; omega
  | ⟨2, _⟩ => show 0 + b.val = b.val; omega

/-- The counter's slice of a stack of rows. -/
theorem dyn2 (n1 : ℕ) (x : Vec Ideal ⟨2, ![8, n1]⟩ .f32) (k : Fin 8) (st : Fin 2 → Int) (h) (hst : st = fun a => ((![k.val, 0] a : ℕ) : Int))
    (p : Fin 1) (a : Fin n1) : Host.dynamicSlice ⟨2, ![1, n1]⟩ x st h (ix2 p a) = x (ix2 k a) := by
  have hk := k.isLt
  rw [Host.dynamicSlice_eq_extractStridedSlice ⟨2, ![1, n1]⟩ x st ![k.val, 0] h
    ⟨rfl, fun a => by match a with
      | ⟨0, _⟩ => show k.val + 1 ≤ 8; omega
      | ⟨1, _⟩ => show 0 + n1 ≤ n1; omega⟩ (fun a => by rw [hst])]
  refine congrArg x (funext fun c => Fin.ext ?_)
  have hp : p.val = 0 := by omega
  match c with
  | ⟨0, _⟩ => show k.val + p.val = k.val; omega
  | ⟨1, _⟩ => show 0 + a.val = a.val; omega

/-- The starts the loop's counter gives, on three axes and on two. -/
theorem starts3 (k : Fin 8) (z : S_.Idx) (f : Fin 3 → S_.Idx → BitVec 32)
    (hf : f = ![fun _ => Scf.iv 0#32 1#32 k.val, constantI S_ 32 0#32, constantI S_ 32 0#32]) :
    (fun a => (f a z).toInt) = fun a => ((![k.val, 0, 0] a : ℕ) : Int) := by
  subst hf; funext a
  match a with
  | ⟨0, _⟩ => exact iv_toInt k
  | ⟨1, _⟩ => rfl
  | ⟨2, _⟩ => rfl

theorem starts2 (k : Fin 8) (z : S_.Idx) (f : Fin 2 → S_.Idx → BitVec 32)
    (hf : f = ![fun _ => Scf.iv 0#32 1#32 k.val, constantI S_ 32 0#32]) :
    (fun a => (f a z).toInt) = fun a => ((![k.val, 0] a : ℕ) : Int) := by
  subst hf; funext a
  match a with
  | ⟨0, _⟩ => exact iv_toInt k
  | ⟨1, _⟩ => rfl

/-- A step's row of a stack of rows, as a vector; its matrix of a stack of matrices, as a matrix. -/
theorem rowv (n : ℕ) (x : Vec Ideal ⟨2, ![8, n]⟩ .f32) (k : Fin 8) (z : S_.Idx) (h) (hc) (a : Fin n) :
    shapeCast ⟨1, ![n]⟩ (Host.dynamicSlice ⟨2, ![1, n]⟩ x
      (fun a => ((![fun _ => Scf.iv 0#32 1#32 k.val, constantI S_ 32 0#32] : Fin 2 → S_.Idx → BitVec 32) a z).toInt) h) hc (ix1 a)
      = x (ix2 k a) := by
  refine (ValueIdx.shapeCast_1a_a_apply _ hc a).trans ?_
  exact dyn2 n x k _ _ (starts2 k _ _ rfl) 0 a

theorem matv (n1 n2 : ℕ) (x : Vec Ideal ⟨3, ![8, n1, n2]⟩ .f32) (k : Fin 8) (z : S_.Idx) (h) (hc) (a : Fin n1) (b : Fin n2) :
    shapeCast ⟨2, ![n1, n2]⟩ (Host.dynamicSlice ⟨3, ![1, n1, n2]⟩ x
      (fun a => ((![fun _ => Scf.iv 0#32 1#32 k.val, constantI S_ 32 0#32, constantI S_ 32 0#32] : Fin 3 → S_.Idx → BitVec 32) a z).toInt) h) hc (ix2 a b)
      = x (ix3 k a b) := by
  refine (ValueIdx.shapeCast_1ab_ab_apply _ hc a b).trans ?_
  exact dyn3 n1 n2 x k _ _ (starts3 k _ _ rfl) 0 a b

section Pure

variable (y u v : FVec Ideal S131072x2 .f32) (e b : FVec Ideal S2 .f32) (w1 : FVec Ideal S512x1 .f32) (b1 : FVec Ideal S512 .f32)
  (w2 : FVec Ideal S2x512 .f32) (w : FVec Ideal S2x2 .f32) (l t : FVec Ideal S131072 .f32) (d : FVec Ideal S_ .f32)

theorem p28 (n : Fin 131072) (a : Fin 2) :
    (addf (mulf y (broadcastInDim S131072x2 ![0, 1] bcast_S1x2_S131072x2_0_1 (broadcastInDim S1x2 ![1] bcast_S2_S1x2_1 (Host.exp e))))
      (broadcastInDim S131072x2 ![0, 1] bcast_S1x2_S131072x2_0_1 (broadcastInDim S1x2 ![1] bcast_S2_S1x2_1 b)) : FVec Ideal S131072x2 .f32) (ix2 n a)
      = y (ix2 n a) * Ideal.exp (e (ix1 a)) + b (ix1 a) := by
  pointwise

theorem p43 (n : Fin 131072) (o : Fin 2) :
    (addf (Host.dotGeneral (F := Ideal) (φ₁ := .f32) (φ₂ := .f32) dot_S131072x512_S512x2_S131072x2_1_0_0_1_n_n none (maximumf (addf (Host.dotGeneral (F := Ideal) (φ₁ := .f32) (φ₂ := .f32) dot_S131072x1_S1x512_S131072x512_1_0_0_1_n_n none (extractStridedSlice S131072x1 ![0, 0] u slices_S131072x2_S131072x1_0_0) (transpose S1x512 [1, 0] w1 transposes_S512x1_S1x512_1_0)) (broadcastInDim S131072x512 ![0, 1] bcast_S1x512_S131072x512_0_1 (broadcastInDim S1x512 ![1] bcast_S512_S1x512_1 b1))) (broadcastInDim S131072x512 ![] bcast_S_S131072x512 (constant S_ .f32 0x00000000#32))) (transpose S512x2 [1, 0] w2 transposes_S2x512_S512x2_1_0))
      (broadcastInDim S131072x2 ![0, 1] bcast_S1x2_S131072x2_0_1 (broadcastInDim S1x2 ![1] bcast_S2_S1x2_1 b)) : FVec Ideal S131072x2 .f32) (ix2 n o)
      = (∑ h : Fin 512, max (u (ix2 n 0) * w1 (ix2 h 0) + b1 (ix1 h)) 0 * w2 (ix2 o h)) + b (ix1 o) := by
  pointwise [Fin.sum_univ_one]

theorem p46 (n : Fin 131072) :
    (Host.tanh (shapeCast S131072 (extractStridedSlice S131072x1 ![0, 0] u slices_S131072x2_S131072x1_0_0) shapeCasts_S131072x1_S131072) : FVec Ideal S131072 .f32) (ix1 n)
      = Ideal.tanh (u (ix2 n 0)) := by
  pointwise

theorem pdet (i : S_.Idx) :
    (subf (mulf (shapeCast S_ (extractStridedSlice S1x1 ![0, 0] w slices_S2x2_S1x1_0_0) shapeCasts_S1x1_S_) (shapeCast S_ (extractStridedSlice S1x1 ![1, 1] w slices_S2x2_S1x1_1_1) shapeCasts_S1x1_S_)) (mulf (shapeCast S_ (extractStridedSlice S1x1 ![0, 1] w slices_S2x2_S1x1_0_1) shapeCasts_S1x1_S_) (shapeCast S_ (extractStridedSlice S1x1 ![1, 0] w slices_S2x2_S1x1_1_0) shapeCasts_S1x1_S_)) : FVec Ideal S_ .f32) i
      = w (ix2 0 0) * w (ix2 1 1) - w (ix2 0 1) * w (ix2 1 0) := by
  pointwise

theorem py (n : Fin 131072) (j : Fin 2) :
    (Host.dotGeneral (F := Ideal) (φ₁ := .f32) (φ₂ := .f32) dot_S131072x2_S2x2_S131072x2_1_0_0_1_n_n none (concatenate S131072x2 1 [⟨S131072x1, (broadcastInDim S131072x1 ![0] bcast_S131072_S131072x1_0 (shapeCast S131072 (extractStridedSlice S131072x1 ![0, 0] u slices_S131072x2_S131072x1_0_0) shapeCasts_S131072x1_S131072))⟩, ⟨S131072x1, (broadcastInDim S131072x1 ![0] bcast_S131072_S131072x1_0 (addf (mulf (shapeCast S131072 (extractStridedSlice S131072x1 ![0, 1] u slices_S131072x2_S131072x1_0_1) shapeCasts_S131072x1_S131072) (Host.exp t)) (shapeCast S131072 (extractStridedSlice S131072x1 ![0, 1] v slices_S131072x2_S131072x1_0_1) shapeCasts_S131072x1_S131072)))⟩] concatenates_S131072x1_S131072x1_S131072x2_d1) (transpose S2x2 [1, 0] w transposes_S2x2_S2x2_1_0) : FVec Ideal S131072x2 .f32) (ix2 n j)
      = u (ix2 n 0) * w (ix2 j 0) + (u (ix2 n 1) * Ideal.exp (t (ix1 n)) + v (ix2 n 1)) * w (ix2 j 1) := by
  pointwise [Fin.sum_univ_two]

theorem pl (n : Fin 131072) :
    (addf (addf (addf l (broadcastInDim S131072 ![] bcast_S_S131072 (Host.reduceAdd e (constant S_ .f32 0x00000000#32) reducesTo_S2_S_d0 h_S_))) t) (broadcastInDim S131072 ![] bcast_S_S131072 (Host.log (Host.absf d))) : FVec Ideal S131072 .f32) (ix1 n)
      = l (ix1 n) + (e (ix1 0) + e (ix1 1)) + t (ix1 n) + Ideal.log (max (d ix0) (-(d ix0))) := by
  pointwise [Fin.sum_univ_two]
  rfl

theorem py0 (n : Fin 131072) (j : Fin 2) :
    (Host.dotGeneral (F := Ideal) (φ₁ := .f32) (φ₂ := .f32) dot_S131072x2_S2x2_S131072x2_1_0_0_1_n_n none y (transpose S2x2 [1, 0] w transposes_S2x2_S2x2_1_0) : FVec Ideal S131072x2 .f32) (ix2 n j)
      = y (ix2 n 0) * w (ix2 j 0) + y (ix2 n 1) * w (ix2 j 1) := by
  pointwise [Fin.sum_univ_two]

theorem pout (n : Fin 131072) :
    (addf (subf (broadcastInDim S131072 ![] bcast_S_S131072 (constant S_ .f32 0xBFEB3F8E#32)) (Host.divf (Host.reduceAdd (mulf y y) (constant S_ .f32 0x00000000#32) reducesTo_S131072x2_S131072_d1 h_S_) (broadcastInDim S131072 ![] bcast_S_S131072 (constant S_ .f32 0x40000000#32)))) l : FVec Ideal S131072 .f32) (ix1 n)
      = Ideal.ofBits .f32 0xBFEB3F8E#32 - Ideal.div (y (ix2 n 0) * y (ix2 n 0) + y (ix2 n 1) * y (ix2 n 1)) (Ideal.ofBits .f32 0x40000000#32) + l (ix1 n) := by
  pointwise [Fin.sum_univ_two]

end Pure

section Step

variable {V : Valuation τ sig (Elt Ideal)} {k : Fin 8} {W : Vec Ideal S8x2x2 .f32} {els ab : Vec Ideal S8x2 .f32} {w1 : Vec Ideal S8x512x1 .f32}
  {b1 : Vec Ideal S8x512 .f32} {w2 : Vec Ideal S8x2x512 .f32} {b2 : Vec Ideal S8x2 .f32} {y : Vec Ideal S131072x2 .f32} {l : Vec Ideal S131072 .f32}

theorem v15_at (H : Holds V k W els ab w1 b1 w2 b2 y l) (a c : Fin 2) :
    (res_main_while0b_v15 V : Vec Ideal S2x2 .f32) (ix2 a c) = W (ix3 k a c) := by
  unfold res_main_while0b_v15
  rw [H.h0, H.h7]
  exact matv 2 2 W k _ _ _ a c

theorem v16_at (H : Holds V k W els ab w1 b1 w2 b2 y l) (a : Fin 2) :
    (res_main_while0b_v16 V : Vec Ideal S2 .f32) (ix1 a) = els (ix2 k a) := by
  unfold res_main_while0b_v16
  rw [H.h1, H.h7]
  exact rowv 2 els k _ _ _ a

theorem v28_at (H : Holds V k W els ab w1 b1 w2 b2 y l) (n : Fin 131072) (a : Fin 2) :
    (res_main_while0b_v28 V : Vec Ideal S131072x2 .f32) (ix2 n a) = y (ix2 n a) * Ideal.exp (els (ix2 k a)) + ab (ix2 k a) := by
  unfold res_main_while0b_v28
  rw [H.h8, H.h2, H.h7]
  refine (p28 y (res_main_while0b_v16 V) _ n a).trans ?_
  rw [v16_at H]
  exact congrArg _ (rowv 2 ab k _ _ _ a)

theorem v43_at (H : Holds V k W els ab w1 b1 w2 b2 y l) (n : Fin 131072) (o : Fin 2) :
    (res_main_while0b_v43 V : Vec Ideal S131072x2 .f32) (ix2 n o)
      = rH (rowOf W els ab w1 b1 w2 b2 k) ((res_main_while0b_v28 V : Vec Ideal S131072x2 .f32) (ix2 n 0)) o := by
  unfold res_main_while0b_v43
  rw [H.h3, H.h4, H.h5, H.h6, H.h7]
  refine (p43 (res_main_while0b_v28 V) _ _ _ _ n o).trans ?_
  refine congrArg₂ _ (Finset.sum_congr rfl fun h _ => ?_) (rowv 2 b2 k _ _ _ o)
  refine congrArg₂ _ (congrArg₂ _ (congrArg₂ _ (congrArg _ (matv 512 1 w1 k _ _ _ h 0)) (rowv 512 b1 k _ _ _ h)) rfl) (matv 2 512 w2 k _ _ _ o h)

theorem v46_at (H : Holds V k W els ab w1 b1 w2 b2 y l) (n : Fin 131072) :
    (res_main_while0b_v46 V : Vec Ideal S131072 .f32) (ix1 n) = Ideal.tanh ((res_main_while0b_v43 V : Vec Ideal S131072x2 .f32) (ix2 n 0)) := by
  unfold res_main_while0b_v46
  exact p46 (res_main_while0b_v43 V) n

theorem det_at (H : Holds V k W els ab w1 b1 w2 b2 y l) (i : S_.Idx) :
    (res_main_while0b_call9_v10 V : Vec Ideal S_ .f32) i
      = W (ix3 k 0 0) * W (ix3 k 1 1) - W (ix3 k 0 1) * W (ix3 k 1 0) := by
  unfold res_main_while0b_call9_v10
  refine (pdet (res_main_while0b_v15 V) i).trans ?_
  rw [v15_at H, v15_at H, v15_at H, v15_at H]

/-- The samples' coordinates and log-Jacobians after a trip, from those before it. -/
theorem step_y (H : Holds V k W els ab w1 b1 w2 b2 y l) (n : Fin 131072) :
    (step_main_v7_8 V : Vec Ideal S131072x2 .f32) (ix2 n 0)
        = (stepR (rowOf W els ab w1 b1 w2 b2 k) ⟨y (ix2 n 0), y (ix2 n 1), l (ix1 n)⟩).y0
      ∧ (step_main_v7_8 V : Vec Ideal S131072x2 .f32) (ix2 n 1)
        = (stepR (rowOf W els ab w1 b1 w2 b2 k) ⟨y (ix2 n 0), y (ix2 n 1), l (ix1 n)⟩).y1 := by
  have key : ∀ j : Fin 2, (step_main_v7_8 V : Vec Ideal S131072x2 .f32) (ix2 n j)
      = rA (rowOf W els ab w1 b1 w2 b2 k) (y (ix2 n 0)) * W (ix3 k j 0)
        + rD (rowOf W els ab w1 b1 w2 b2 k) (rA (rowOf W els ab w1 b1 w2 b2 k) (y (ix2 n 0))) (rB (rowOf W els ab w1 b1 w2 b2 k) (y (ix2 n 1)))
          * W (ix3 k j 1) := by
    intro j
    unfold step_main_v7_8
    refine (py (res_main_while0b_v28 V) (res_main_while0b_v43 V) (res_main_while0b_v15 V) (res_main_while0b_v46 V) n j).trans ?_
    rw [v15_at H, v15_at H, v46_at H, v43_at H, v43_at H, v28_at H, v28_at H]
    rfl
  exact ⟨key 0, key 1⟩

theorem step_l (H : Holds V k W els ab w1 b1 w2 b2 y l) (n : Fin 131072) :
    (step_main_v7_9 V : Vec Ideal S131072 .f32) (ix1 n)
      = (stepR (rowOf W els ab w1 b1 w2 b2 k) ⟨y (ix2 n 0), y (ix2 n 1), l (ix1 n)⟩).s := by
  unfold step_main_v7_9
  rw [H.h9]
  refine (pl (res_main_while0b_v16 V) l (res_main_while0b_v46 V) (res_main_while0b_call9_v10 V) n).trans ?_
  rw [v16_at H, v16_at H, v46_at H, v43_at H, v28_at H, det_at H]
  rfl

end Step

end Cert.Proof.Ref

end
-- ==== Proof.RefRun.lean ====
/- The reference's results, read at one sample: `Flow`'s reference chain after eight steps, and its log-density. -/
module

public import proofs.«01_k».proof.Proof.RefStep

@[expose] public section

noncomputable section

namespace Cert.Proof.Ref

open Cert.ReferenceIdeal Cert.ReferenceIdeal.Gen Cert.ReferenceIdeal.Value Idealize.ShloMosaic Idealize.ShloMosaic.TcCoe
open Idealize.SL.Sem Idealize.ShloMosaic.StableHlo Idealize.ShloMosaic.Tactic
open Cert.Proof.Flow

variable (m : (ℓ : Loc nD τ sig) → Buf (Elt Ideal) ℓ) (c : Dev nD)

/-- The arguments as arrays. -/
abbrev aX : Vec Ideal S131072x2 .f32 := m ((c.tc : Thread nD τ).loc main_arg0)
abbrev aW : Vec Ideal S9x2x2 .f32 := m ((c.tc : Thread nD τ).loc main_arg1)
abbrev aE : Vec Ideal S8x2 .f32 := m ((c.tc : Thread nD τ).loc main_arg2)
abbrev aB : Vec Ideal S8x2 .f32 := m ((c.tc : Thread nD τ).loc main_arg3)
abbrev aW1 : Vec Ideal S8x512x1 .f32 := m ((c.tc : Thread nD τ).loc main_arg4)
abbrev aB1 : Vec Ideal S8x512 .f32 := m ((c.tc : Thread nD τ).loc main_arg5)
abbrev aW2 : Vec Ideal S8x2x512 .f32 := m ((c.tc : Thread nD τ).loc main_arg6)
abbrev aB2 : Vec Ideal S8x2 .f32 := m ((c.tc : Thread nD τ).loc main_arg7)

theorem entry0 : (entryContents preI m c (Proc.devRef .tc main_v7_0) : Vec Ideal S8x2x2 .f32)
    = extractStridedSlice S8x2x2 ![1, 0, 0] (aW m c) slices_S9x2x2_S8x2x2_1_0_0 := by
  simp only [entryContents, afterL_cons, afterL_nil]
  after_reads_simp
  rfl

theorem entry1 : (entryContents preI m c (Proc.devRef .tc main_v7_1) : Vec Ideal S8x2 .f32) = aE m c := by
  simp only [entryContents, afterL_cons, afterL_nil]
  after_reads_simp
  rfl

theorem entry2 : (entryContents preI m c (Proc.devRef .tc main_v7_2) : Vec Ideal S8x2 .f32) = aB m c := by
  simp only [entryContents, afterL_cons, afterL_nil]
  after_reads_simp
  rfl

theorem entry3 : (entryContents preI m c (Proc.devRef .tc main_v7_3) : Vec Ideal S8x512x1 .f32) = aW1 m c := by
  simp only [entryContents, afterL_cons, afterL_nil]
  after_reads_simp
  rfl

theorem entry4 : (entryContents preI m c (Proc.devRef .tc main_v7_4) : Vec Ideal S8x512 .f32) = aB1 m c := by
  simp only [entryContents, afterL_cons, afterL_nil]
  after_reads_simp
  rfl

theorem entry5 : (entryContents preI m c (Proc.devRef .tc main_v7_5) : Vec Ideal S8x2x512 .f32) = aW2 m c := by
  simp only [entryContents, afterL_cons, afterL_nil]
  after_reads_simp
  rfl

theorem entry6 : (entryContents preI m c (Proc.devRef .tc main_v7_6) : Vec Ideal S8x2 .f32) = aB2 m c := by
  simp only [entryContents, afterL_cons, afterL_nil]
  after_reads_simp
  rfl

theorem entry8 : (entryContents preI m c (Proc.devRef .tc main_v7_8) : Vec Ideal S131072x2 .f32)
    = Host.dotGeneral (F := Ideal) (φ₁ := .f32) (φ₂ := .f32) dot_S131072x2_S2x2_S131072x2_1_0_0_1_n_n none (aX m c)
        (transpose S2x2 [1, 0] (shapeCast S2x2 (extractStridedSlice S1x2x2 ![0, 0, 0] (aW m c) slices_S9x2x2_S1x2x2_0_0_0) shapeCasts_S1x2x2_S2x2)
          transposes_S2x2_S2x2_1_0) := by
  simp only [entryContents, afterL_cons, afterL_nil]
  after_reads_simp
  rfl

/-- The determinant of a 2×2 matrix, as the operations compute it. -/
abbrev detOf (w : FVec Ideal S2x2 .f32) : FVec Ideal S_ .f32 :=
  subf (mulf (shapeCast S_ (extractStridedSlice S1x1 ![0, 0] w slices_S2x2_S1x1_0_0) shapeCasts_S1x1_S_) (shapeCast S_ (extractStridedSlice S1x1 ![1, 1] w slices_S2x2_S1x1_1_1) shapeCasts_S1x1_S_)) (mulf (shapeCast S_ (extractStridedSlice S1x1 ![0, 1] w slices_S2x2_S1x1_0_1) shapeCasts_S1x1_S_) (shapeCast S_ (extractStridedSlice S1x1 ![1, 0] w slices_S2x2_S1x1_1_0) shapeCasts_S1x1_S_))

theorem entry9 : (entryContents preI m c (Proc.devRef .tc main_v7_9) : Vec Ideal S131072 .f32)
    = broadcastInDim S131072 ![] bcast_S_S131072 (Host.log (Host.absf
        (detOf (shapeCast S2x2 (extractStridedSlice S1x2x2 ![0, 0, 0] (aW m c) slices_S9x2x2_S1x2x2_0_0_0) shapeCasts_S1x2x2_S2x2)))) := by
  simp only [entryContents, afterL_cons, afterL_nil]
  after_reads_simp
  rfl

/-- The mixing `k` of the stack, and step `k`'s parameters (of a step past the last, those of the last). -/
def wOf (W : Vec Ideal S9x2x2 .f32) (k : Fin 9) : Fin 2 → Fin 2 → EReal := fun a b => W (ix3 k a b)

def rowsOf (W : Vec Ideal S9x2x2 .f32) (els ab : Vec Ideal S8x2 .f32) (w1 : Vec Ideal S8x512x1 .f32)
    (b1 : Vec Ideal S8x512 .f32) (w2 : Vec Ideal S8x2x512 .f32) (b2 : Vec Ideal S8x2 .f32) (k : ℕ) : Row :=
  rowOf (extractStridedSlice S8x2x2 ![1, 0, 0] W slices_S9x2x2_S8x2x2_1_0_0) els ab w1 b1 w2 b2 ⟨min k 7, by omega⟩

/-- The chain of the arguments, for sample `n`. -/
def chain (n : Fin 131072) (k : ℕ) : St :=
  flowR (wOf (aW m c) 0) (rowsOf (aW m c) (aE m c) (aB m c) (aW1 m c) (aB1 m c) (aW2 m c) (aB2 m c)) (aX m c (ix2 n 0)) (aX m c (ix2 n 1)) k

theorem w0_at (a b : Fin 2) : shapeCast S2x2 (extractStridedSlice S1x2x2 ![0, 0, 0] (aW m c) slices_S9x2x2_S1x2x2_0_0_0) shapeCasts_S1x2x2_S2x2 (ix2 a b)
    = wOf (aW m c) 0 a b := by
  generalize aW m c = W
  pointwise [wOf]

theorem entry_y (n : Fin 131072) (j : Fin 2) : (entryContents preI m c (Proc.devRef .tc main_v7_8) : Vec Ideal S131072x2 .f32) (ix2 n j)
    = aX m c (ix2 n 0) * wOf (aW m c) 0 j 0 + aX m c (ix2 n 1) * wOf (aW m c) 0 j 1 := by
  rw [entry8, py0, w0_at, w0_at]

theorem entry_l (n : Fin 131072) : (entryContents preI m c (Proc.devRef .tc main_v7_9) : Vec Ideal S131072 .f32) (ix1 n) = ldet (wOf (aW m c) 0) := by
  rw [entry9]
  refine congrArg (fun x : EReal => Ideal.log (max x (-x))) ((pdet _ ix0).trans ?_)
  rw [w0_at, w0_at, w0_at, w0_at]

/-- What holds before trip `k`. -/
structure At (V : Valuation τ sig (Elt Ideal)) (k : ℕ) : Prop where
  h0 : V (Proc.devRef .tc main_v7_0) = extractStridedSlice S8x2x2 ![1, 0, 0] (aW m c) slices_S9x2x2_S8x2x2_1_0_0
  h1 : V (Proc.devRef .tc main_v7_1) = aE m c
  h2 : V (Proc.devRef .tc main_v7_2) = aB m c
  h3 : V (Proc.devRef .tc main_v7_3) = aW1 m c
  h4 : V (Proc.devRef .tc main_v7_4) = aB1 m c
  h5 : V (Proc.devRef .tc main_v7_5) = aW2 m c
  h6 : V (Proc.devRef .tc main_v7_6) = aB2 m c
  h7 : V (Proc.devRef .tc main_v7_7) = fun _ => Scf.iv 0#32 1#32 k
  y0 : ∀ n, (V (Proc.devRef .tc main_v7_8) : Vec Ideal S131072x2 .f32) (ix2 n 0) = (chain m c n k).y0
  y1 : ∀ n, (V (Proc.devRef .tc main_v7_8) : Vec Ideal S131072x2 .f32) (ix2 n 1) = (chain m c n k).y1
  s : ∀ n, (V (Proc.devRef .tc main_v7_9) : Vec Ideal S131072 .f32) (ix1 n) = (chain m c n k).s

theorem at_zero : At m c (entryContents preI m c) 0 where
  h0 := entry0 m c
  h1 := entry1 m c
  h2 := entry2 m c
  h3 := entry3 m c
  h4 := entry4 m c
  h5 := entry5 m c
  h6 := entry6 m c
  h7 := by rw [ctr_entry, Scf.iv_zero]
  y0 := fun n => entry_y m c n 0
  y1 := fun n => entry_y m c n 1
  s := fun n => entry_l m c n

theorem at_succ (V : Valuation τ sig (Elt Ideal)) (k : ℕ) (hk : k < 8) (H : At m c V k) : At m c (STEP V) (k + 1) := by
  have hH : Holds V ⟨k, hk⟩ _ _ _ _ _ _ _ (V (Proc.devRef .tc main_v7_8)) (V (Proc.devRef .tc main_v7_9)) :=
    ⟨H.h0, H.h1, H.h2, H.h3, H.h4, H.h5, H.h6, H.h7, rfl, rfl⟩
  have hst : ∀ n, chain m c n (k + 1) = stepR (rowOf (extractStridedSlice S8x2x2 ![1, 0, 0] (aW m c) slices_S9x2x2_S8x2x2_1_0_0)
      (aE m c) (aB m c) (aW1 m c) (aB1 m c) (aW2 m c) (aB2 m c) ⟨k, hk⟩) (chain m c n k) := by
    intro n
    show stepR (rowsOf _ _ _ _ _ _ _ k) _ = _
    unfold rowsOf
    congr 2
    exact Fin.ext (by show min k 7 = k; omega)
  have hp : ∀ n, (⟨(V (Proc.devRef .tc main_v7_8) : Vec Ideal S131072x2 .f32) (ix2 n 0), (V (Proc.devRef .tc main_v7_8) : Vec Ideal S131072x2 .f32) (ix2 n 1),
      (V (Proc.devRef .tc main_v7_9) : Vec Ideal S131072 .f32) (ix1 n)⟩ : St) = chain m c n k := by
    intro n; rw [H.y0, H.y1, H.s]
  refine ⟨?_, ?_, ?_, ?_, ?_, ?_, ?_, ?_, ?_, ?_, ?_⟩
  · rw [STEP_main_v7_0]; exact H.h0
  · rw [STEP_main_v7_1]; exact H.h1
  · rw [STEP_main_v7_2]; exact H.h2
  · rw [STEP_main_v7_3]; exact H.h3
  · rw [STEP_main_v7_4]; exact H.h4
  · rw [STEP_main_v7_5]; exact H.h5
  · rw [STEP_main_v7_6]; exact H.h6
  · rw [STEP_main_v7_7]; unfold step_main_v7_7; rw [H.h7, Scf.iv_succ]; rfl
  · intro n; rw [STEP_main_v7_8, (step_y hH n).1, hst, hp]
  · intro n; rw [STEP_main_v7_8, (step_y hH n).2, hst, hp]
  · intro n; rw [STEP_main_v7_9, step_l hH n, hst, hp]

theorem at_iter : ∀ k, k ≤ 8 → At m c (STEP^[k] (entryContents preI m c)) k
  | 0, _ => at_zero m c
  | k + 1, h => by
    rw [Function.iterate_succ_apply']
    exact at_succ m c _ k (by omega) (at_iter k (by omega))

/-- The reference's two results at a sample. -/
theorem res_y0 (n : Fin 131072) : ((STEP^[8] (entryContents preI m c)) (Proc.devRef .tc main_v7_8) : Vec Ideal S131072x2 .f32) (ix2 n 0)
    = (chain m c n 8).y0 := (at_iter m c 8 le_rfl).y0 n
theorem res_y1 (n : Fin 131072) : ((STEP^[8] (entryContents preI m c)) (Proc.devRef .tc main_v7_8) : Vec Ideal S131072x2 .f32) (ix2 n 1)
    = (chain m c n 8).y1 := (at_iter m c 8 le_rfl).y1 n
theorem res_logp (n : Fin 131072) : (out_main_v14 (STEP^[8] (entryContents preI m c)) : Vec Ideal S131072 .f32) (ix1 n)
    = logpR (chain m c n 8) := by
  have H := at_iter m c 8 le_rfl
  unfold out_main_v14
  refine (pout _ _ n).trans ?_
  rw [logpR, ← H.y0 n, ← H.y1 n, ← H.s n]

end Cert.Proof.Ref

end
-- ==== Proof.Pre.lean ====
/- The precondition, read at each element: no hidden bias, log-scales below infinity, everything else finite. -/
module

public import proofs.«01_k».proof.Proof.Bridge
public import proofs.«01_k».proof.Defs
public import proofs.«01_k».proof.Proof.Gen.Pre_finite_no_hidden_bias
public import Idealize.ShloMosaic.Lib.ReduceAll

@[expose] public section

noncomputable section

namespace Cert.Proof.Pre

open Idealize.ShloMosaic Cert.Pre_finite_no_hidden_bias Cert.Proof.Flow

instance : Subsingleton S_.Idx := ⟨fun a b => funext fun d => d.elim0⟩

theorem inf_bits : Ideal.ofBits .f32 0x7F800000#32 = (⊤ : EReal) := by simp [Ideal.ofBits, Ideal.ieee]
theorem zero_bits : Ideal.ofBits .f32 0x00000000#32 = (0 : EReal) := by simp [Ideal.ofBits, Ideal.ieee]

theorem fin_of_abs {x : EReal} (h : max x (-x) < ⊤) : Fin' x := by
  induction x using EReal.rec with
  | bot => simp at h
  | coe r => exact ⟨r, rfl⟩
  | top => simp at h

theorem lt_of_cmp {S : Shape} (x : FVec Ideal S .f32) (b : Fin S_.rank → Fin S.rank) (hb : S_.BroadcastsInDim S b) (i : S.Idx)
    (h : cmpf .olt x (broadcastInDim S b hb (constant S_ .f32 0x7F800000#32 : FVec Ideal S_ .f32)) i = 1#1) : (x i : EReal) < ⊤ := by
  have h' : BitVec.ofBool (decide ((x i : EReal) < Ideal.ofBits .f32 0x7F800000#32)) = 1#1 := h
  rw [inf_bits] at h'
  by_contra hn
  simp [hn] at h'

theorem eq_of_cmp {S : Shape} (x : FVec Ideal S .f32) (b : Fin S_.rank → Fin S.rank) (hb : S_.BroadcastsInDim S b) (i : S.Idx)
    (h : cmpf .oeq x (broadcastInDim S b hb (constant S_ .f32 0x00000000#32 : FVec Ideal S_ .f32)) i = 1#1) : (x i : EReal) = 0 := by
  have h' : BitVec.ofBool (decide ((x i : EReal) = Ideal.ofBits .f32 0x00000000#32)) = 1#1 := h
  rw [zero_bits] at h'
  by_contra hn
  simp [hn] at h'

/-- What the precondition says of the eight arguments. -/
structure Holds (x : FVec Ideal S131072x2 .f32) (W : FVec Ideal S9x2x2 .f32) (els ab : FVec Ideal S8x2 .f32)
    (w1 : FVec Ideal S8x512x1 .f32) (b1 : FVec Ideal S8x512 .f32) (w2 : FVec Ideal S8x2x512 .f32) (b2 : FVec Ideal S8x2 .f32) : Prop where
  z : ∀ i, (b1 i : EReal) = 0
  e : ∀ i, (els i : EReal) < ⊤
  x : ∀ i, Fin' (x i)
  w : ∀ i, Fin' (W i)
  b : ∀ i, Fin' (ab i)
  w1 : ∀ i, Fin' (w1 i)
  w2 : ∀ i, Fin' (w2 i)
  b2 : ∀ i, Fin' (b2 i)

theorem holds [Cert.Pre_finite_no_hidden_bias.Facts] (x : FVec Ideal S131072x2 .f32) (W : FVec Ideal S9x2x2 .f32) (els ab : FVec Ideal S8x2 .f32)
    (w1 : FVec Ideal S8x512x1 .f32) (b1 : FVec Ideal S8x512 .f32) (w2 : FVec Ideal S8x2x512 .f32) (b2 : FVec Ideal S8x2 .f32) (j : S_.Idx)
    (h : fn (F := Ideal) x W els ab w1 b1 w2 b2 j = 1#1) : Holds x W els ab w1 b1 w2 b2 := by
  unfold fn fn_part1 fn_part2 at h
  simp only at h
  obtain ⟨h, g7⟩ := IntOp.andi_eq_one.1 h
  obtain ⟨h, g6⟩ := IntOp.andi_eq_one.1 h
  obtain ⟨h, g4⟩ := IntOp.andi_eq_one.1 h
  obtain ⟨h, g3⟩ := IntOp.andi_eq_one.1 h
  obtain ⟨h, g1⟩ := IntOp.andi_eq_one.1 h
  obtain ⟨h, g0⟩ := IntOp.andi_eq_one.1 h
  obtain ⟨g5, g2⟩ := IntOp.andi_eq_one.1 h
  exact
    { z := fun i => eq_of_cmp _ _ _ i (Host.reduce_andi_all _ _ _ _ j g5 i)
      e := fun i => lt_of_cmp _ _ _ i (Host.reduce_andi_all _ _ _ _ j g2 i)
      x := fun i => fin_of_abs (lt_of_cmp _ _ _ i (Host.reduce_andi_all _ _ _ _ j g0 i))
      w := fun i => fin_of_abs (lt_of_cmp _ _ _ i (Host.reduce_andi_all _ _ _ _ j g1 i))
      b := fun i => fin_of_abs (lt_of_cmp _ _ _ i (Host.reduce_andi_all _ _ _ _ j g3 i))
      w1 := fun i => fin_of_abs (lt_of_cmp _ _ _ i (Host.reduce_andi_all _ _ _ _ j g4 i))
      w2 := fun i => fin_of_abs (lt_of_cmp _ _ _ i (Host.reduce_andi_all _ _ _ _ j g6 i))
      b2 := fun i => fin_of_abs (lt_of_cmp _ _ _ i (Host.reduce_andi_all _ _ _ _ j g7 i)) }

end Cert.Proof.Pre

end
-- ==== Proof.Params.lean ====
/- The kernel's table holds the reference's parameters, and the precondition makes each step's parameters finite. -/
module

public import proofs.«01_k».proof.Proof.KernelHost
public import proofs.«01_k».proof.Proof.RefRun
public import proofs.«01_k».proof.Proof.Pre

@[expose] public section

noncomputable section

namespace Cert.Proof.Params

open Cert.KernelIdeal Idealize.ShloMosaic
open Cert.Proof.Flow Cert.Proof.Host Cert.Proof.Block Cert.Proof.Ref

theorem tab_row (h : FVec Ideal S16 .f32) (r : FVec Ideal S8x16 .f32) (k : Fin 8) (l : Fin 16) : tab (table h r) (k.val + 1) l.val = r (ix2 k l) := by
  have hk : k.val + 1 < 9 ∧ l.val < 16 := by omega
  unfold tab
  rw [dif_pos hk]
  exact Eq.trans (congrArg (fun a => table h r (ix2 a l)) (Fin.ext (Nat.add_comm _ _))) (table_rows h r k l)

theorem tab_head (h : FVec Ideal S16 .f32) (r : FVec Ideal S8x16 .f32) (l : Fin 16) : tab (table h r) 0 l.val = h (ix1 l) := by
  unfold tab
  rw [dif_pos ⟨by omega, l.isLt⟩]
  exact table_head h r l

theorem step_w (W : FVec Ideal S9x2x2 .f32) (k : Fin 8) (a b : Fin 2) :
    (extractStridedSlice Cert.ReferenceIdeal.S8x2x2 ![1, 0, 0] W Cert.ReferenceIdeal.Gen.slices_S9x2x2_S8x2x2_1_0_0 : FVec Ideal S8x2x2 .f32) (ix3 k a b)
      = W (ix3 ⟨1 + k.val, by omega⟩ a b) := by
  pointwise

variable (W : FVec Ideal S9x2x2 .f32) (E B : FVec Ideal S8x2 .f32) (w1 : FVec Ideal S8x512x1 .f32)
    (b1 : FVec Ideal S8x512 .f32) (w2 : FVec Ideal S8x2x512 .f32) (b2 : FVec Ideal S8x2 .f32)

/-- The table of the arguments. -/
abbrev tabOf : Tbl := tab (table (head W E) (rows (stepMixes W) (Idealize.ShloMosaic.Host.exp (F := Ideal) (φ := .f32) E) B b2 (pos w1 w2) (neg w1 w2)))

theorem rowsOf_at (k : ℕ) (h : k < 8) : rowsOf W E B w1 b1 w2 b2 k
    = { e := fun a => E (ix2 ⟨k, h⟩ a), b := fun a => B (ix2 ⟨k, h⟩ a), w1 := fun j => w1 (ix3 ⟨k, h⟩ j 0), b1 := fun j => b1 (ix2 ⟨k, h⟩ j),
        w2 := fun o j => w2 (ix3 ⟨k, h⟩ o j), b2 := fun a => b2 (ix2 ⟨k, h⟩ a), w := fun a b => W (ix3 ⟨1 + k, by omega⟩ a b) } := by
  have e : ∀ q : min k 7 < 8, (⟨min k 7, q⟩ : Fin 8) = ⟨k, h⟩ := fun q => Fin.ext (by show min k 7 = k; omega)
  unfold rowsOf rowOf
  simp only [e, step_w]

theorem isTable : IsTable (tabOf W E B w1 w2 b2) (wOf W 0) (rowsOf W E B w1 b1 w2 b2) where
  m0 := (tab_head _ _ 0).trans (head_0 W E)
  m1 := (tab_head _ _ 1).trans (head_1 W E)
  m2 := (tab_head _ _ 2).trans (head_2 W E)
  m3 := (tab_head _ _ 3).trans (head_3 W E)
  row := fun k h => by
    obtain ⟨s0, s1, s2, s3⟩ := stepMixes_at W ⟨k, h⟩
    rw [rowsOf_at W E B w1 b1 w2 b2 k h]
    exact
      { m0 := (tab_row _ _ ⟨k, h⟩ 0).trans ((rows_w _ _ _ _ _ _ ⟨k, h⟩ 0).trans s0)
        m1 := (tab_row _ _ ⟨k, h⟩ 1).trans ((rows_w _ _ _ _ _ _ ⟨k, h⟩ 1).trans s1)
        m2 := (tab_row _ _ ⟨k, h⟩ 2).trans ((rows_w _ _ _ _ _ _ ⟨k, h⟩ 2).trans s2)
        m3 := (tab_row _ _ ⟨k, h⟩ 3).trans ((rows_w _ _ _ _ _ _ ⟨k, h⟩ 3).trans s3)
        e0 := (tab_row _ _ ⟨k, h⟩ 4).trans (rows_4 _ _ _ _ _ _ ⟨k, h⟩)
        b0 := (tab_row _ _ ⟨k, h⟩ 5).trans (rows_5 _ _ _ _ _ _ ⟨k, h⟩)
        e1 := (tab_row _ _ ⟨k, h⟩ 6).trans (rows_6 _ _ _ _ _ _ ⟨k, h⟩)
        b1 := (tab_row _ _ ⟨k, h⟩ 7).trans (rows_7 _ _ _ _ _ _ ⟨k, h⟩)
        c0 := (tab_row _ _ ⟨k, h⟩ 8).trans (rows_8 _ _ _ _ _ _ ⟨k, h⟩)
        c1 := (tab_row _ _ ⟨k, h⟩ 9).trans (rows_9 _ _ _ _ _ _ ⟨k, h⟩)
        p0 := (tab_row _ _ ⟨k, h⟩ 10).trans ((rows_10 _ _ _ _ _ _ ⟨k, h⟩).trans (pos_at w1 w2 ⟨k, h⟩ 0))
        n0 := (tab_row _ _ ⟨k, h⟩ 11).trans ((rows_11 _ _ _ _ _ _ ⟨k, h⟩).trans (neg_at w1 w2 ⟨k, h⟩ 0))
        p1 := (tab_row _ _ ⟨k, h⟩ 12).trans ((rows_12 _ _ _ _ _ _ ⟨k, h⟩).trans (pos_at w1 w2 ⟨k, h⟩ 1))
        n1 := (tab_row _ _ ⟨k, h⟩ 13).trans ((rows_13 _ _ _ _ _ _ ⟨k, h⟩).trans (neg_at w1 w2 ⟨k, h⟩ 1)) }

/-- The table's constant: the normal density's, every log-determinant, every log-scale. -/
theorem total : tabOf W E B w1 w2 b2 0 4 = Ideal.ofBits .f32 0xBFEB3F8E#32
    + (ldet (wOf W 0) + ∑ i ∈ Finset.range 8, ldet (rowsOf W E B w1 b1 w2 b2 i).w)
    + ∑ i ∈ Finset.range 8, ((rowsOf W E B w1 b1 w2 b2 i).e 0 + (rowsOf W E B w1 b1 w2 b2 i).e 1) := by
  refine (tab_head _ _ 4).trans ((head_4 W E (fun d => d.elim0)).trans ((tot_at W E _).trans ?_))
  rw [Finset.sum_range, Finset.sum_range, Fin.sum_univ_succ]
  simp only [Fin.sum_univ_two, lds_at]
  have hl : ∀ i : Fin 8, ldet (rowsOf W E B w1 b1 w2 b2 i.val).w = ldet (fun a b => W (ix3 i.succ a b)) := fun i => by
    rw [rowsOf_at W E B w1 b1 w2 b2 i.val i.isLt]
    exact congrArg (fun q : Fin 9 => ldet (fun a b => W (ix3 q a b))) (Fin.ext (Nat.add_comm _ _))
  have he : ∀ i : Fin 8, (rowsOf W E B w1 b1 w2 b2 i.val).e 0 + (rowsOf W E B w1 b1 w2 b2 i.val).e 1 = E (ix2 i 0) + E (ix2 i 1) := fun i => by
    rw [rowsOf_at W E B w1 b1 w2 b2 i.val i.isLt]
  simp only [hl, he]
  rfl

variable (X : FVec Ideal S131072x2 .f32)

theorem finRow (H : Pre.Holds X W E B w1 b1 w2 b2) : ∀ k < 8, FinRow (rowsOf W E B w1 b1 w2 b2 k) := fun k h => by
  rw [rowsOf_at W E B w1 b1 w2 b2 k h]
  exact ⟨fun a => H.e _, fun a => H.b _, fun j => H.w1 _, fun o j => H.w2 _, fun o => H.b2 _, fun a c => H.w _, fun j => H.z _⟩

/-- From one sample both chains end at the same coordinates and the same log-density. -/
theorem same (H : Pre.Holds X W E B w1 b1 w2 b2) (n : Fin 131072) :
    (flowK (tabOf W E B w1 w2 b2) (X (ix2 n 0)) (X (ix2 n 1)) 8).y0 = (flowR (wOf W 0) (rowsOf W E B w1 b1 w2 b2) (X (ix2 n 0)) (X (ix2 n 1)) 8).y0
    ∧ (flowK (tabOf W E B w1 w2 b2) (X (ix2 n 0)) (X (ix2 n 1)) 8).y1 = (flowR (wOf W 0) (rowsOf W E B w1 b1 w2 b2) (X (ix2 n 0)) (X (ix2 n 1)) 8).y1
    ∧ logpK (tabOf W E B w1 w2 b2) (flowK (tabOf W E B w1 w2 b2) (X (ix2 n 0)) (X (ix2 n 1)) 8)
      = logpR (flowR (wOf W 0) (rowsOf W E B w1 b1 w2 b2) (X (ix2 n 0)) (X (ix2 n 1)) 8) := by
  have hT := isTable W E B w1 b1 w2 b2
  have hw : ∀ a b, Fin' (wOf W 0 a b) := fun a b => H.w _
  have hR := finRow W E B w1 b1 w2 b2 X H
  obtain ⟨h0, h1, -, -, -⟩ := flow_eq hT hw hR (H.x (ix2 n 0)) (H.x (ix2 n 1)) 8 le_rfl
  exact ⟨h0, h1, logp_eq hT hw hR (H.x _) (H.x _) (total W E B w1 b1 w2 b2)⟩

end Cert.Proof.Params

end
-- ==== Proof.lean ====
/- The certificate: both programs' frames, and the kernel's two results equal the reference's over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_no_hidden_bias
public import proofs.«01_k».proof.Proof.KernelTail
public import proofs.«01_k».proof.Proof.Params
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem
open Cert.Proof.Flow Cert.Proof.Tail

section
open Cert.KernelIdeal Cert.KernelIdeal.Gen

variable (m : (ℓ : Loc nD τ sig) → Buf (Elt Ideal) ℓ) (ρ : Dev nD → PrngReg)

/-- The kernel's run with its two results named. -/
theorem kernel_run : θ_run (defs (F := Ideal)) (onTc (τ := τ) (main (F := Ideal))) ⟨m, fun _ => 0, ρ⟩ fun r => ∀ c : Dev nD,
    r.2.mem ((c.tc : Thread nD τ).loc main_v58) = res0 m c
    ∧ r.2.mem ((c.tc : Thread nD τ).loc main_v59) = res1 m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  (θ_run defs _ _).mono (fun r h c => by
    have rest := fun (b : Ref sig .tc) (h1) (h2) => (h c).2 b (Pipeline.mem_restRefs_of b h1 h2)
    exact ⟨rest main_v58 (by decide) (by decide), rest main_v59 (by decide) (by decide),
      (rest main_arg0 (by decide) (by decide)).trans (W_main_arg0 m (dats m) c),
      (rest main_arg1 (by decide) (by decide)).trans (W_main_arg1 m (dats m) c),
      (rest main_arg2 (by decide) (by decide)).trans (W_main_arg2 m (dats m) c),
      (rest main_arg3 (by decide) (by decide)).trans (W_main_arg3 m (dats m) c),
      (rest main_arg4 (by decide) (by decide)).trans (W_main_arg4 m (dats m) c),
      (rest main_arg5 (by decide) (by decide)).trans (W_main_arg5 m (dats m) c),
      (rest main_arg6 (by decide) (by decide)).trans (W_main_arg6 m (dats m) c),
      (rest main_arg7 (by decide) (by decide)).trans (W_main_arg7 m (dats m) c)⟩) (run_main m ρ)

variable (m' : (ℓ : Loc Cert.ReferenceIdeal.nD Cert.ReferenceIdeal.τ Cert.ReferenceIdeal.sig) → Buf (Elt Ideal) ℓ) (c : Dev nD)

/-- The two memories hold the same arguments. -/
structure Agree : Prop where
  a0 : Ref.aX m' c = Host.aX m c
  a1 : Ref.aW m' c = Host.aW m c
  a2 : Ref.aE m' c = Host.aE m c
  a3 : Ref.aB m' c = Host.aB m c
  a4 : Ref.aW1 m' c = Host.aW1 m c
  a6 : Ref.aW2 m' c = Host.aW2 m c
  a7 : Ref.aB2 m' c = Host.aB2 m c

variable {m m' c}

/-- Sample by sample, the kernel's chain ends where the reference's does. -/
theorem chains (A : Agree m m' c)
    (H : Pre.Holds (Host.aX m c) (Host.aW m c) (Host.aE m c) (Host.aB m c) (Host.aW1 m c) (Ref.aB1 m' c) (Host.aW2 m c) (Host.aB2 m c)) (n : Fin 131072) :
    (stN m c n).y0 = (Ref.chain m' c n 8).y0 ∧ (stN m c n).y1 = (Ref.chain m' c n 8).y1
      ∧ logpK (Arr.tabV m c) (stN m c n) = logpR (Ref.chain m' c n 8) := by
  have h := Params.same _ _ _ _ _ _ _ _ H n
  unfold stN Arr.tabV Ref.chain
  rw [Host.V_table, A.a0, A.a1, A.a2, A.a3, A.a4, A.a6, A.a7]
  exact h

theorem results0 (A : Agree m m' c)
    (H : Pre.Holds (Host.aX m c) (Host.aW m c) (Host.aE m c) (Host.aB m c) (Host.aW1 m c) (Ref.aB1 m' c) (Host.aW2 m c) (Host.aB2 m c)) :
    ((Cert.ReferenceIdeal.Value.STEP^[8] (Idealize.ShloMosaic.StableHlo.entryContents Cert.ReferenceIdeal.Value.preI m' c)) (Proc.devRef .tc Cert.ReferenceIdeal.main_v7_8)
      : Vec Ideal S131072x2 .f32) = res0 m c := by
  funext j
  obtain ⟨n, a, rfl⟩ : ∃ (n : Fin 131072) (a : Fin 2), j = ix2 n a := ⟨j 0, j 1, funext fun d => by match d with | ⟨0, _⟩ => rfl | ⟨1, _⟩ => rfl⟩
  obtain ⟨h0, h1, -⟩ := chains A H n
  match a with
  | ⟨0, _⟩ => exact (Ref.res_y0 m' c n).trans (h0.symm.trans (res0_y0 m c n).symm)
  | ⟨1, _⟩ => exact (Ref.res_y1 m' c n).trans (h1.symm.trans (res0_y1 m c n).symm)

theorem results1 (A : Agree m m' c)
    (H : Pre.Holds (Host.aX m c) (Host.aW m c) (Host.aE m c) (Host.aB m c) (Host.aW1 m c) (Ref.aB1 m' c) (Host.aW2 m c) (Host.aB2 m c)) :
    (Cert.ReferenceIdeal.Value.out_main_v14 (Cert.ReferenceIdeal.Value.STEP^[8] (Idealize.ShloMosaic.StableHlo.entryContents Cert.ReferenceIdeal.Value.preI m' c))
      : Vec Ideal S131072 .f32) = res1 m c := by
  funext j
  obtain ⟨n, rfl⟩ : ∃ n : Fin 131072, j = ix1 n := ⟨j 0, funext fun d => by match d with | ⟨0, _⟩ => rfl⟩
  exact (Ref.res_logp m' c n).trans ((chains A H n).2.2.symm.trans (res1_at m c n).symm)

end

/-- Kernel and reference end with equal results. -/
theorem algebraic : Cert.algebraic_KernelIdeal_ReferenceIdeal_pre_finite_no_hidden_bias (hKernelIdeal := Cert.KernelIdeal.Gen.facts)
    (hReferenceIdeal := Cert.ReferenceIdeal.Gen.facts) (hPre_finite_no_hidden_bias := Cert.Pre_finite_no_hidden_bias.Gen.facts) := by
  intro m g m' g' hpre hargs
  have hA : ∀ c, Agree m m' c := fun c => by
    obtain ⟨h0, h1, h2, h3, h4, h5, h6, h7⟩ := hargs c
    exact ⟨h0, h1, h2, h3, h4, h6, h7⟩
  have hH : ∀ c, Pre.Holds (Host.aX m c) (Host.aW m c) (Host.aE m c) (Host.aB m c) (Host.aW1 m c) (Ref.aB1 m' c) (Host.aW2 m c) (Host.aB2 m c) := fun c => by
    have h5 : Ref.aB1 m' c = _ := (hargs c).2.2.2.2.2.1
    rw [h5]
    exact Pre.holds _ _ _ _ _ _ _ _ (fun d => d.elim0) (congrFun (hpre c) _)
  refine ⟨fun c => res0 m c, fun c => res1 m c, kernel_run m g, ?_⟩
  refine (θ_run Cert.ReferenceIdeal.defs _ _).mono (fun r h c => ?_) (Cert.ReferenceIdeal.Value.run m' g')
  obtain ⟨r0, r1, rest⟩ := h c
  exact ⟨r0.trans (results0 (hA c) (hH c)), r1.trans (results1 (hA c) (hH c)), rest⟩

/-- The reference leaves its arguments unchanged, and since it declares no semaphore every counter is zero. -/
theorem reference_frame : Cert.quiescent_ReferenceIdeal (hReferenceIdeal := Cert.ReferenceIdeal.Gen.facts) := fun m ρ _ =>
  (θ_run Cert.ReferenceIdeal.defs _ _).mono
    (fun r h => ⟨fun c => (h c).2.2, sem_eq_zero_of_no_sems (by decide) r.2⟩) (Cert.ReferenceIdeal.Value.run m ρ)

theorem claim : Cert.Claim := ⟨Cert.Kernel.Gen.facts, Cert.KernelIdeal.Gen.facts, Cert.ReferenceIdeal.Gen.facts, Cert.Pre_finite_no_hidden_bias.Gen.facts,
  fun m ρ _ => Cert.Kernel.Gen.frame m ρ,
  fun m ρ _ => Cert.KernelIdeal.Gen.frame m ρ, fun m ρ _ => Cert.KernelIdeal.Gen.frame m ρ,
  reference_frame, fun m ρ _ => reference_frame m ρ trivial,
  trivial, algebraic⟩

end Cert.Proof

end
